-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v169)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v169) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x96x224x224 : Shape := ⟨4, ![1, 96, 224, 224]⟩
abbrev S1x18x224x224 : Shape := ⟨4, ![1, 18, 224, 224]⟩
abbrev S1x9x224x224 : Shape := ⟨4, ![1, 9, 224, 224]⟩
abbrev S_ : Shape := ⟨0, ![]⟩

class Facts : Prop where
  bcast_S_S1x96x224x224 : S_.BroadcastsInDim S1x96x224x224 (![] : Fin 0 → Fin S1x96x224x224.rank)
  reducesTo_S1x96x224x224_S_d0_1_2_3 : S1x96x224x224.ReducesTo [0, 1, 2, 3] S_
  h_S_ : 0 < S_.numel
  bcast_S_S1x9x224x224 : S_.BroadcastsInDim S1x9x224x224 (![] : Fin 0 → Fin S1x9x224x224.rank)
  reducesTo_S1x9x224x224_S_d0_1_2_3 : S1x9x224x224.ReducesTo [0, 1, 2, 3] S_

variable [Facts]

def fn {F : FTy → Type} [FloatOps F] (main_arg0 : FVec F S1x96x224x224 .f32) (main_arg1 : FVec F S1x18x224x224 .f32) (main_arg2 : FVec F S1x9x224x224 .f32) : IVec S_ 1 :=
  let main_v0 : FVec F S1x96x224x224 .f32 := Host.absf main_arg0
  let main_cst : FVec F S_ .f32 := constant S_ .f32 0x7F800000#32
  let main_v1 : FVec F S1x96x224x224 .f32 := broadcastInDim S1x96x224x224 ![] bcast_S_S1x96x224x224 main_cst
  let main_v2 : IVec S1x96x224x224 1 := cmpf .olt main_v0 main_v1
  let main_c : IVec S_ 1 := constantI S_ 1 1#1
  let main_v3 : IVec S_ 1 := (fun x v => Host.reduce IntOp.andi x v reducesTo_S1x96x224x224_S_d0_1_2_3 h_S_) main_v2 main_c
  let main_v4 : FVec F S1x9x224x224 .f32 := Host.absf main_arg2
  let main_cst_0 : FVec F S_ .f32 := constant S_ .f32 0x7F800000#32
  let main_v5 : FVec F S1x9x224x224 .f32 := broadcastInDim S1x9x224x224 ![] bcast_S_S1x9x224x224 main_cst_0
  let main_v6 : IVec S1x9x224x224 1 := cmpf .olt main_v4 main_v5
  let main_c_1 : IVec S_ 1 := constantI S_ 1 1#1
  let main_v7 : IVec S_ 1 := (fun x v => Host.reduce IntOp.andi x v reducesTo_S1x9x224x224_S_d0_1_2_3 h_S_) main_v6 main_c_1
  let main_v8 : IVec S_ 1 := andi main_v3 main_v7
  main_v8
-- ==== Kernel.lean ====
abbrev S1x96x224x224 : Shape := ⟨4, ![1, 96, 224, 224]⟩
abbrev S1x18x224x224 : Shape := ⟨4, ![1, 18, 224, 224]⟩
abbrev S1x9x224x224 : Shape := ⟨4, ![1, 9, 224, 224]⟩
abbrev S96x50176 : Shape := ⟨2, ![96, 50176]⟩
abbrev S50176x96 : Shape := ⟨2, ![50176, 96]⟩
abbrev S18x224x224 : Shape := ⟨3, ![18, 224, 224]⟩
abbrev S9x224x224 : Shape := ⟨3, ![9, 224, 224]⟩
abbrev S9x2x224x224 : Shape := ⟨4, ![9, 2, 224, 224]⟩
abbrev S9 : Shape := ⟨1, ![9]⟩
abbrev S_ : Shape := ⟨0, ![]⟩
abbrev S9x1x1 : Shape := ⟨3, ![9, 1, 1]⟩
abbrev S224 : Shape := ⟨1, ![224]⟩
abbrev S1x224x1 : Shape := ⟨3, ![1, 224, 1]⟩
abbrev S1x1x224 : Shape := ⟨3, ![1, 1, 224]⟩
abbrev S9x224x1 : Shape := ⟨3, ![9, 224, 1]⟩
abbrev S9x1x224x224 : Shape := ⟨4, ![9, 1, 224, 224]⟩
abbrev S9x1x224 : Shape := ⟨3, ![9, 1, 224]⟩
abbrev S9x4x224x224 : Shape := ⟨4, ![9, 4, 224, 224]⟩
abbrev S36x50176 : Shape := ⟨2, ![36, 50176]⟩
abbrev S50176x36 : Shape := ⟨2, ![50176, 36]⟩
abbrev S1806336 : Shape := ⟨1, ![1806336]⟩
abbrev S1806336x1 : Shape := ⟨2, ![1806336, 1]⟩
abbrev S1806336x96 : Shape := ⟨2, ![1806336, 96]⟩
abbrev S50176x36x96 : Shape := ⟨3, ![50176, 36, 96]⟩
abbrev S50176x36x1 : Shape := ⟨3, ![50176, 36, 1]⟩

abbrev nBuf : Space → Nat
  | .hbm => 298
  | .vmem => 2
  | .smem => 0
  | _ => 0

abbrev hbmTy0_0 (i : Nat) : BufTy := match i % 128 with
  | 0 => ⟨S1x96x224x224, .f32⟩
  | 1 => ⟨S1x18x224x224, .f32⟩
  | 2 => ⟨S1x9x224x224, .f32⟩
  | 3 => ⟨S96x50176, .f32⟩
  | 4 => ⟨S50176x96, .f32⟩
  | 5 => ⟨S18x224x224, .f32⟩
  | 6 => ⟨S9x224x224, .f32⟩
  | 7 => ⟨S9x2x224x224, .f32⟩
  | 8 => ⟨S9, .i32⟩
  | 9 => ⟨S_, .i32⟩
  | 10 => ⟨S_, .i32⟩
  | 11 => ⟨S9, .i32⟩
  | 12 => ⟨S9, .i32⟩
  | 13 => ⟨S9, .i32⟩
  | 14 => ⟨S_, .i32⟩
  | 15 => ⟨S9, .i32⟩
  | 16 => ⟨S9, .i1⟩
  | 17 => ⟨S9, .i32⟩
  | 18 => ⟨S9, .i32⟩
  | 19 => ⟨S_, .i32⟩
  | 20 => ⟨S9, .i32⟩
  | 21 => ⟨S9, .i1⟩
  | 22 => ⟨S9, .i1⟩
  | 23 => ⟨S_, .i32⟩
  | 24 => ⟨S9, .i32⟩
  | 25 => ⟨S9, .i32⟩
  | 26 => ⟨S9, .i32⟩
  | 27 => ⟨S9, .f32⟩
  | 28 => ⟨S9x1x1, .f32⟩
  | 29 => ⟨S9, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S9, .i32⟩
  | 37 => ⟨S9, .i32⟩
  | 38 => ⟨S_, .i32⟩
  | 39 => ⟨S9, .i32⟩
  | 40 => ⟨S9, .i1⟩
  | 41 => ⟨S_, .i32⟩
  | 42 => ⟨S9, .i32⟩
  | 43 => ⟨S9, .i1⟩
  | 44 => ⟨S_, .i32⟩
  | 45 => ⟨S_, .i1⟩
  | 46 => ⟨S9, .i1⟩
  | 47 => ⟨S9, .i1⟩
  | 48 => ⟨S9, .i1⟩
  | 49 => ⟨S9, .i32⟩
  | 50 => ⟨S9, .i32⟩
  | 51 => ⟨S9, .i32⟩
  | 52 => ⟨S9, .f32⟩
  | 53 => ⟨S9x1x1, .f32⟩
  | 54 => ⟨S224, .f32⟩
  | 55 => ⟨S1x224x1, .f32⟩
  | 56 => ⟨S224, .f32⟩
  | 57 => ⟨S1x1x224, .f32⟩
  | 58 => ⟨S_, .f32⟩
  | 59 => ⟨S1x224x1, .f32⟩
  | 60 => ⟨S1x224x1, .f32⟩
  | 61 => ⟨S9x224x1, .f32⟩
  | 62 => ⟨S9x224x1, .f32⟩
  | 63 => ⟨S9x224x1, .f32⟩
  | 64 => ⟨S9x1x224x224, .f32⟩
  | 65 => ⟨S9x224x224, .f32⟩
  | 66 => ⟨S9x224x224, .f32⟩
  | 67 => ⟨S9x224x224, .f32⟩
  | 68 => ⟨S_, .f32⟩
  | 69 => ⟨S1x1x224, .f32⟩
  | 70 => ⟨S1x1x224, .f32⟩
  | 71 => ⟨S9x1x224, .f32⟩
  | 72 => ⟨S9x1x224, .f32⟩
  | 73 => ⟨S9x1x224, .f32⟩
  | 74 => ⟨S9x1x224x224, .f32⟩
  | 75 => ⟨S9x224x224, .f32⟩
  | 76 => ⟨S9x224x224, .f32⟩
  | 77 => ⟨S9x224x224, .f32⟩
  | 78 => ⟨S9x224x224, .f32⟩
  | 79 => ⟨S9x224x224, .f32⟩
  | 80 => ⟨S9x224x224, .f32⟩
  | 81 => ⟨S9x224x224, .f32⟩
  | 82 => ⟨S_, .f32⟩
  | 83 => ⟨S9x224x224, .f32⟩
  | 84 => ⟨S9x224x224, .f32⟩
  | 85 => ⟨S_, .f32⟩
  | 86 => ⟨S9x224x224, .f32⟩
  | 87 => ⟨S9x224x224, .f32⟩
  | 88 => ⟨S_, .f32⟩
  | 89 => ⟨S9x224x224, .f32⟩
  | 90 => ⟨S9x224x224, .f32⟩
  | 91 => ⟨S_, .f32⟩
  | 92 => ⟨S9x224x224, .f32⟩
  | 93 => ⟨S9x224x224, .f32⟩
  | 94 => ⟨S_, .f32⟩
  | 95 => ⟨S9x224x224, .f32⟩
  | 96 => ⟨S9x224x224, .i1⟩
  | 97 => ⟨S_, .f32⟩
  | 98 => ⟨S9x224x224, .f32⟩
  | 99 => ⟨S9x224x224, .i1⟩
  | 100 => ⟨S9x224x224, .i1⟩
  | 101 => ⟨S_, .f32⟩
  | 102 => ⟨S9x224x224, .f32⟩
  | 103 => ⟨S9x224x224, .i1⟩
  | 104 => ⟨S9x224x224, .i1⟩
  | 105 => ⟨S_, .f32⟩
  | 106 => ⟨S9x224x224, .f32⟩
  | 107 => ⟨S9x224x224, .i1⟩
  | 108 => ⟨S9x224x224, .i1⟩
  | 109 => ⟨S9x224x224, .f32⟩
  | 110 => ⟨S_, .i32⟩
  | 111 => ⟨S_, .i32⟩
  | 112 => ⟨S_, .f32⟩
  | 113 => ⟨S9x224x224, .f32⟩
  | 114 => ⟨S9x224x224, .f32⟩
  | 115 => ⟨S_, .f32⟩
  | 116 => ⟨S9x224x224, .f32⟩
  | 117 => ⟨S9x224x224, .f32⟩
  | 118 => ⟨S9x224x224, .i32⟩
  | 119 => ⟨S_, .i32⟩
  | 120 => ⟨S_, .i32⟩
  | 121 => ⟨S_, .f32⟩
  | 122 => ⟨S9x224x224, .f32⟩
  | 123 => ⟨S9x224x224, .f32⟩
  | 124 => ⟨S_, .f32⟩
  | 125 => ⟨S9x224x224, .f32⟩
  | 126 => ⟨S9x224x224, .f32⟩
  | 127 => ⟨S9x224x224, .i32⟩
  | _ => ⟨S1x96x224x224, .f32⟩

abbrev hbmTy0_1 (i : Nat) : BufTy := match i % 128 with
  | 0 => ⟨S_, .i32⟩
  | 1 => ⟨S9x224x224, .i32⟩
  | 2 => ⟨S9x224x224, .i32⟩
  | 3 => ⟨S9x224x224, .i32⟩
  | 4 => ⟨S9x224x224, .f32⟩
  | 5 => ⟨S9x224x224, .f32⟩
  | 6 => ⟨S9x224x224, .f32⟩
  | 7 => ⟨S_, .f32⟩
  | 8 => ⟨S9x224x224, .f32⟩
  | 9 => ⟨S9x224x224, .i1⟩
  | 10 => ⟨S_, .f32⟩
  | 11 => ⟨S9x224x224, .f32⟩
  | 12 => ⟨S9x224x224, .i1⟩
  | 13 => ⟨S9x224x224, .i1⟩
  | 14 => ⟨S_, .f32⟩
  | 15 => ⟨S9x224x224, .f32⟩
  | 16 => ⟨S9x224x224, .i1⟩
  | 17 => ⟨S9x224x224, .i1⟩
  | 18 => ⟨S_, .f32⟩
  | 19 => ⟨S9x224x224, .f32⟩
  | 20 => ⟨S9x224x224, .i1⟩
  | 21 => ⟨S9x224x224, .i1⟩
  | 22 => ⟨S9x224x224, .f32⟩
  | 23 => ⟨S_, .i32⟩
  | 24 => ⟨S_, .i32⟩
  | 25 => ⟨S_, .f32⟩
  | 26 => ⟨S9x224x224, .f32⟩
  | 27 => ⟨S9x224x224, .f32⟩
  | 28 => ⟨S_, .f32⟩
  | 29 => ⟨S9x224x224, .f32⟩
  | 30 => ⟨S9x224x224, .f32⟩
  | 31 => ⟨S9x224x224, .i32⟩
  | 32 => ⟨S_, .i32⟩
  | 33 => ⟨S_, .i32⟩
  | 34 => ⟨S_, .f32⟩
  | 35 => ⟨S9x224x224, .f32⟩
  | 36 => ⟨S9x224x224, .f32⟩
  | 37 => ⟨S_, .f32⟩
  | 38 => ⟨S9x224x224, .f32⟩
  | 39 => ⟨S9x224x224, .f32⟩
  | 40 => ⟨S9x224x224, .i32⟩
  | 41 => ⟨S_, .i32⟩
  | 42 => ⟨S9x224x224, .i32⟩
  | 43 => ⟨S9x224x224, .i32⟩
  | 44 => ⟨S9x224x224, .i32⟩
  | 45 => ⟨S9x224x224, .f32⟩
  | 46 => ⟨S9x224x224, .f32⟩
  | 47 => ⟨S9x224x224, .f32⟩
  | 48 => ⟨S_, .f32⟩
  | 49 => ⟨S9x224x224, .f32⟩
  | 50 => ⟨S9x224x224, .f32⟩
  | 51 => ⟨S_, .f32⟩
  | 52 => ⟨S9x224x224, .f32⟩
  | 53 => ⟨S9x224x224, .f32⟩
  | 54 => ⟨S_, .f32⟩
  | 55 => ⟨S9x224x224, .f32⟩
  | 56 => ⟨S9x224x224, .i1⟩
  | 57 => ⟨S_, .f32⟩
  | 58 => ⟨S9x224x224, .f32⟩
  | 59 => ⟨S9x224x224, .i1⟩
  | 60 => ⟨S9x224x224, .i1⟩
  | 61 => ⟨S_, .f32⟩
  | 62 => ⟨S9x224x224, .f32⟩
  | 63 => ⟨S9x224x224, .i1⟩
  | 64 => ⟨S9x224x224, .i1⟩
  | 65 => ⟨S_, .f32⟩
  | 66 => ⟨S9x224x224, .f32⟩
  | 67 => ⟨S9x224x224, .i1⟩
  | 68 => ⟨S9x224x224, .i1⟩
  | 69 => ⟨S9x224x224, .f32⟩
  | 70 => ⟨S_, .i32⟩
  | 71 => ⟨S_, .i32⟩
  | 72 => ⟨S_, .f32⟩
  | 73 => ⟨S9x224x224, .f32⟩
  | 74 => ⟨S9x224x224, .f32⟩
  | 75 => ⟨S_, .f32⟩
  | 76 => ⟨S9x224x224, .f32⟩
  | 77 => ⟨S9x224x224, .f32⟩
  | 78 => ⟨S9x224x224, .i32⟩
  | 79 => ⟨S_, .i32⟩
  | 80 => ⟨S_, .i32⟩
  | 81 => ⟨S_, .f32⟩
  | 82 => ⟨S9x224x224, .f32⟩
  | 83 => ⟨S9x224x224, .f32⟩
  | 84 => ⟨S_, .f32⟩
  | 85 => ⟨S9x224x224, .f32⟩
  | 86 => ⟨S9x224x224, .f32⟩
  | 87 => ⟨S9x224x224, .i32⟩
  | 88 => ⟨S_, .i32⟩
  | 89 => ⟨S9x224x224, .i32⟩
  | 90 => ⟨S9x224x224, .i32⟩
  | 91 => ⟨S9x224x224, .i32⟩
  | 92 => ⟨S9x224x224, .f32⟩
  | 93 => ⟨S9x224x224, .f32⟩
  | 94 => ⟨S9x224x224, .f32⟩
  | 95 => ⟨S_, .f32⟩
  | 96 => ⟨S9x224x224, .f32⟩
  | 97 => ⟨S9x224x224, .i1⟩
  | 98 => ⟨S_, .f32⟩
  | 99 => ⟨S9x224x224, .f32⟩
  | 100 => ⟨S9x224x224, .i1⟩
  | 101 => ⟨S9x224x224, .i1⟩
  | 102 => ⟨S_, .f32⟩
  | 103 => ⟨S9x224x224, .f32⟩
  | 104 => ⟨S9x224x224, .i1⟩
  | 105 => ⟨S9x224x224, .i1⟩
  | 106 => ⟨S_, .f32⟩
  | 107 => ⟨S9x224x224, .f32⟩
  | 108 => ⟨S9x224x224, .i1⟩
  | 109 => ⟨S9x224x224, .i1⟩
  | 110 => ⟨S9x224x224, .f32⟩
  | 111 => ⟨S_, .i32⟩
  | 112 => ⟨S_, .i32⟩
  | 113 => ⟨S_, .f32⟩
  | 114 => ⟨S9x224x224, .f32⟩
  | 115 => ⟨S9x224x224, .f32⟩
  | 116 => ⟨S_, .f32⟩
  | 117 => ⟨S9x224x224, .f32⟩
  | 118 => ⟨S9x224x224, .f32⟩
  | 119 => ⟨S9x224x224, .i32⟩
  | 120 => ⟨S_, .i32⟩
  | 121 => ⟨S_, .i32⟩
  | 122 => ⟨S_, .f32⟩
  | 123 => ⟨S9x224x224, .f32⟩
  | 124 => ⟨S9x224x224, .f32⟩
  | 125 => ⟨S_, .f32⟩
  | 126 => ⟨S9x224x224, .f32⟩
  | 127 => ⟨S9x224x224, .f32⟩
  | _ => ⟨S1x96x224x224, .f32⟩

abbrev hbmTy0_2 (i : Nat) : BufTy := match i % 128 with
  | 0 => ⟨S9x224x224, .i32⟩
  | 1 => ⟨S_, .i32⟩
  | 2 => ⟨S9x224x224, .i32⟩
  | 3 => ⟨S9x224x224, .i32⟩
  | 4 => ⟨S9x224x224, .i32⟩
  | 5 => ⟨S9x224x224, .f32⟩
  | 6 => ⟨S9x224x224, .f32⟩
  | 7 => ⟨S9x224x224, .f32⟩
  | 8 => ⟨S9x1x224x224, .i32⟩
  | 9 => ⟨S9x1x224x224, .i32⟩
  | 10 => ⟨S9x1x224x224, .i32⟩
  | 11 => ⟨S9x1x224x224, .i32⟩
  | 12 => ⟨S9x4x224x224, .i32⟩
  | 13 => ⟨S9x1x224x224, .f32⟩
  | 14 => ⟨S9x1x224x224, .f32⟩
  | 15 => ⟨S9x1x224x224, .f32⟩
  | 16 => ⟨S9x1x224x224, .f32⟩
  | 17 => ⟨S9x4x224x224, .f32⟩
  | 18 => ⟨S36x50176, .i32⟩
  | 19 => ⟨S50176x36, .i32⟩
  | 20 => ⟨S1806336, .i32⟩
  | 21 => ⟨S36x50176, .f32⟩
  | 22 => ⟨S50176x36, .f32⟩
  | 23 => ⟨S1806336, .f32⟩
  | 24 => ⟨S_, .i32⟩
  | 25 => ⟨S1806336, .i32⟩
  | 26 => ⟨S1806336, .i1⟩
  | 27 => ⟨S_, .i32⟩
  | 28 => ⟨S1806336, .i32⟩
  | 29 => ⟨S1806336, .i32⟩
  | 30 => ⟨S1806336, .i32⟩
  | 31 => ⟨S1806336x1, .i32⟩
  | 32 => ⟨S1806336x96, .f32⟩
  | 33 => ⟨S50176x36x96, .f32⟩
  | 34 => ⟨S50176x36x1, .f32⟩
  | 35 => ⟨S50176x36x96, .f32⟩
  | 36 => ⟨S50176x36x96, .f32⟩
  | 37 => ⟨S_, .f32⟩
  | 38 => ⟨S50176x96, .f32⟩
  | 39 => ⟨S96x50176, .f32⟩
  | 40 => ⟨S1x96x224x224, .f32⟩
  | 41 => ⟨S1x96x224x224, .f32⟩
  | _ => ⟨S1x96x224x224, .f32⟩

abbrev hbmTy (i : Nat) : BufTy := match i / 128 with
  | 0 => hbmTy0_0 i
  | 1 => hbmTy0_1 i
  | 2 => hbmTy0_2 i
  | _ => ⟨S1x96x224x224, .f32⟩

abbrev bufTy : (tb : Table) → Fin (tcTables nBuf tb) → BufTy
  | .hbm, ⟨i, _⟩ => hbmTy i
  | .local _ .vmem, ⟨0, _⟩ => ⟨S1x96x224x224, .f32⟩
  | .local _ .vmem, ⟨1, _⟩ => ⟨S1x96x224x224, .f32⟩
  | _, _ => ⟨S1x96x224x224, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_cst : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_cst_1 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_2 : Ref sig .tc := ⟨.hbm, 82, rfl⟩
abbrev main_v39 : Ref sig .tc := ⟨.hbm, 83, rfl⟩
abbrev main_v40 : Ref sig .tc := ⟨.hbm, 84, rfl⟩
abbrev main_cst_3 : Ref sig .tc := ⟨.hbm, 85, rfl⟩
abbrev main_v41 : Ref sig .tc := ⟨.hbm, 86, rfl⟩
abbrev main_v42 : Ref sig .tc := ⟨.hbm, 87, rfl⟩
abbrev main_cst_4 : Ref sig .tc := ⟨.hbm, 88, rfl⟩
abbrev main_v43 : Ref sig .tc := ⟨.hbm, 89, rfl⟩
abbrev main_v44 : Ref sig .tc := ⟨.hbm, 90, rfl⟩
abbrev main_cst_5 : Ref sig .tc := ⟨.hbm, 91, rfl⟩
abbrev main_v45 : Ref sig .tc := ⟨.hbm, 92, rfl⟩
abbrev main_v46 : Ref sig .tc := ⟨.hbm, 93, rfl⟩
abbrev main_cst_6 : Ref sig .tc := ⟨.hbm, 94, rfl⟩
abbrev main_v47 : Ref sig .tc := ⟨.hbm, 95, rfl⟩
abbrev main_v48 : Ref sig .tc := ⟨.hbm, 96, rfl⟩
abbrev main_cst_7 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_cst_8 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_cst_9 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_c_10 : Ref sig .tc := ⟨.hbm, 110, rfl⟩
abbrev main_c_11 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_v59 : Ref sig .tc := ⟨.hbm, 117, rfl⟩
abbrev main_v60 : Ref sig .tc := ⟨.hbm, 118, rfl⟩
abbrev main_c_12 : Ref sig .tc := ⟨.hbm, 119, rfl⟩
abbrev main_c_13 : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_v61 : Ref sig .tc := ⟨.hbm, 126, rfl⟩
abbrev main_v62 : Ref sig .tc := ⟨.hbm, 127, rfl⟩
abbrev main_c_14 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_cst_15 : Ref sig .tc := ⟨.hbm, 135, rfl⟩
abbrev main_v69 : Ref sig .tc := ⟨.hbm, 136, rfl⟩
abbrev main_v70 : Ref sig .tc := ⟨.hbm, 137, rfl⟩
abbrev main_cst_16 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_cst_17 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_18 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_c_19 : Ref sig .tc := ⟨.hbm, 151, rfl⟩
abbrev main_c_20 : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_call4_v3 : Ref sig .tc := ⟨.hbm, 156, rfl⟩
abbrev main_call4_v4 : Ref sig .tc := ⟨.hbm, 157, rfl⟩
abbrev main_v81 : Ref sig .tc := ⟨.hbm, 158, rfl⟩
abbrev main_v82 : Ref sig .tc := ⟨.hbm, 159, rfl⟩
abbrev main_c_21 : Ref sig .tc := ⟨.hbm, 160, rfl⟩
abbrev main_c_22 : Ref sig .tc := ⟨.hbm, 161, rfl⟩
abbrev main_call5_v0 : Ref sig .tc := ⟨.hbm, 162, rfl⟩
abbrev main_call5_v1 : Ref sig .tc := ⟨.hbm, 163, rfl⟩
abbrev main_call5_v2 : Ref sig .tc := ⟨.hbm, 164, rfl⟩
abbrev main_call5_v3 : Ref sig .tc := ⟨.hbm, 165, rfl⟩
abbrev main_call5_v4 : Ref sig .tc := ⟨.hbm, 166, rfl⟩
abbrev main_v83 : Ref sig .tc := ⟨.hbm, 167, rfl⟩
abbrev main_v84 : Ref sig .tc := ⟨.hbm, 168, rfl⟩
abbrev main_c_23 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_cst_24 : Ref sig .tc := ⟨.hbm, 176, rfl⟩
abbrev main_v91 : Ref sig .tc := ⟨.hbm, 177, rfl⟩
abbrev main_v92 : Ref sig .tc := ⟨.hbm, 178, rfl⟩
abbrev main_cst_25 : Ref sig .tc := ⟨.hbm, 179, rfl⟩
abbrev main_v93 : Ref sig .tc := ⟨.hbm, 180, rfl⟩
abbrev main_v94 : Ref sig .tc := ⟨.hbm, 181, rfl⟩
abbrev main_cst_26 : Ref sig .tc := ⟨.hbm, 182, rfl⟩
abbrev main_v95 : Ref sig .tc := ⟨.hbm, 183, rfl⟩
abbrev main_v96 : Ref sig .tc := ⟨.hbm, 184, rfl⟩
abbrev main_cst_27 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_cst_28 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_cst_29 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_c_30 : Ref sig .tc := ⟨.hbm, 198, rfl⟩
abbrev main_c_31 : Ref sig .tc := ⟨.hbm, 199, rfl⟩
abbrev main_call6_v0 : Ref sig .tc := ⟨.hbm, 200, rfl⟩
abbrev main_call6_v1 : Ref sig .tc := ⟨.hbm, 201, rfl⟩
abbrev main_call6_v2 : Ref sig .tc := ⟨.hbm, 202, rfl⟩
abbrev main_call6_v3 : Ref sig .tc := ⟨.hbm, 203, rfl⟩
abbrev main_call6_v4 : Ref sig .tc := ⟨.hbm, 204, rfl⟩
abbrev main_v107 : Ref sig .tc := ⟨.hbm, 205, rfl⟩
abbrev main_v108 : Ref sig .tc := ⟨.hbm, 206, rfl⟩
abbrev main_c_32 : Ref sig .tc := ⟨.hbm, 207, rfl⟩
abbrev main_c_33 : Ref sig .tc := ⟨.hbm, 208, rfl⟩
abbrev main_call7_v0 : Ref sig .tc := ⟨.hbm, 209, rfl⟩
abbrev main_call7_v1 : Ref sig .tc := ⟨.hbm, 210, rfl⟩
abbrev main_call7_v2 : Ref sig .tc := ⟨.hbm, 211, rfl⟩
abbrev main_call7_v3 : Ref sig .tc := ⟨.hbm, 212, rfl⟩
abbrev main_call7_v4 : Ref sig .tc := ⟨.hbm, 213, rfl⟩
abbrev main_v109 : Ref sig .tc := ⟨.hbm, 214, rfl⟩
abbrev main_v110 : Ref sig .tc := ⟨.hbm, 215, rfl⟩
abbrev main_c_34 : Ref sig .tc := ⟨.hbm, 216, rfl⟩
abbrev main_v111 : Ref sig .tc := ⟨.hbm, 217, rfl⟩
abbrev main_v112 : Ref sig .tc := ⟨.hbm, 218, rfl⟩
abbrev main_v113 : Ref sig .tc := ⟨.hbm, 219, rfl⟩
abbrev main_v114 : Ref sig .tc := ⟨.hbm, 220, rfl⟩
abbrev main_v115 : Ref sig .tc := ⟨.hbm, 221, rfl⟩
abbrev main_v116 : Ref sig .tc := ⟨.hbm, 222, rfl⟩
abbrev main_cst_35 : Ref sig .tc := ⟨.hbm, 223, rfl⟩
abbrev main_v117 : Ref sig .tc := ⟨.hbm, 224, rfl⟩
abbrev main_v118 : Ref sig .tc := ⟨.hbm, 225, rfl⟩
abbrev main_cst_36 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_cst_37 : Ref sig .tc := ⟨.hbm, 230, rfl⟩
abbrev main_v122 : Ref sig .tc := ⟨.hbm, 231, rfl⟩
abbrev main_v123 : Ref sig .tc := ⟨.hbm, 232, rfl⟩
abbrev main_v124 : Ref sig .tc := ⟨.hbm, 233, rfl⟩
abbrev main_cst_38 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_v128 : Ref sig .tc := ⟨.hbm, 238, rfl⟩
abbrev main_c_39 : Ref sig .tc := ⟨.hbm, 239, rfl⟩
abbrev main_c_40 : Ref sig .tc := ⟨.hbm, 240, rfl⟩
abbrev main_call8_v0 : Ref sig .tc := ⟨.hbm, 241, rfl⟩
abbrev main_call8_v1 : Ref sig .tc := ⟨.hbm, 242, rfl⟩
abbrev main_call8_v2 : Ref sig .tc := ⟨.hbm, 243, rfl⟩
abbrev main_call8_v3 : Ref sig .tc := ⟨.hbm, 244, rfl⟩
abbrev main_call8_v4 : Ref sig .tc := ⟨.hbm, 245, rfl⟩
abbrev main_v129 : Ref sig .tc := ⟨.hbm, 246, rfl⟩
abbrev main_v130 : Ref sig .tc := ⟨.hbm, 247, rfl⟩
abbrev main_c_41 : Ref sig .tc := ⟨.hbm, 248, rfl⟩
abbrev main_c_42 : Ref sig .tc := ⟨.hbm, 249, rfl⟩
abbrev main_call9_v0 : Ref sig .tc := ⟨.hbm, 250, rfl⟩
abbrev main_call9_v1 : Ref sig .tc := ⟨.hbm, 251, rfl⟩
abbrev main_call9_v2 : Ref sig .tc := ⟨.hbm, 252, rfl⟩
abbrev main_call9_v3 : Ref sig .tc := ⟨.hbm, 253, rfl⟩
abbrev main_call9_v4 : Ref sig .tc := ⟨.hbm, 254, rfl⟩
abbrev main_v131 : Ref sig .tc := ⟨.hbm, 255, rfl⟩
abbrev main_v132 : Ref sig .tc := ⟨.hbm, 256, rfl⟩
abbrev main_c_43 : Ref sig .tc := ⟨.hbm, 257, rfl⟩
abbrev main_v133 : Ref sig .tc := ⟨.hbm, 258, rfl⟩
abbrev main_v134 : Ref sig .tc := ⟨.hbm, 259, rfl⟩
abbrev main_v135 : Ref sig .tc := ⟨.hbm, 260, rfl⟩
abbrev main_v136 : Ref sig .tc := ⟨.hbm, 261, rfl⟩
abbrev main_v137 : Ref sig .tc := ⟨.hbm, 262, rfl⟩
abbrev main_v138 : Ref sig .tc := ⟨.hbm, 263, rfl⟩
abbrev main_v139 : Ref sig .tc := ⟨.hbm, 264, rfl⟩
abbrev main_v140 : Ref sig .tc := ⟨.hbm, 265, rfl⟩
abbrev main_v141 : Ref sig .tc := ⟨.hbm, 266, rfl⟩
abbrev main_v142 : Ref sig .tc := ⟨.hbm, 267, rfl⟩
abbrev main_v143 : Ref sig .tc := ⟨.hbm, 268, rfl⟩
abbrev main_v144 : Ref sig .tc := ⟨.hbm, 269, rfl⟩
abbrev main_v145 : Ref sig .tc := ⟨.hbm, 270, rfl⟩
abbrev main_v146 : Ref sig .tc := ⟨.hbm, 271, rfl⟩
abbrev main_v147 : Ref sig .tc := ⟨.hbm, 272, rfl⟩
abbrev main_v148 : Ref sig .tc := ⟨.hbm, 273, rfl⟩
abbrev main_v149 : Ref sig .tc := ⟨.hbm, 274, rfl⟩
abbrev main_v150 : Ref sig .tc := ⟨.hbm, 275, rfl⟩
abbrev main_v151 : Ref sig .tc := ⟨.hbm, 276, rfl⟩
abbrev main_v152 : Ref sig .tc := ⟨.hbm, 277, rfl⟩
abbrev main_v153 : Ref sig .tc := ⟨.hbm, 278, rfl⟩
abbrev main_v154 : Ref sig .tc := ⟨.hbm, 279, rfl⟩
abbrev main_c_44 : Ref sig .tc := ⟨.hbm, 280, rfl⟩
abbrev main_v155 : Ref sig .tc := ⟨.hbm, 281, rfl⟩
abbrev main_v156 : Ref sig .tc := ⟨.hbm, 282, rfl⟩
abbrev main_c_45 : Ref sig .tc := ⟨.hbm, 283, rfl⟩
abbrev main_v157 : Ref sig .tc := ⟨.hbm, 284, rfl⟩
abbrev main_v158 : Ref sig .tc := ⟨.hbm, 285, rfl⟩
abbrev main_v159 : Ref sig .tc := ⟨.hbm, 286, rfl⟩
abbrev main_v160 : Ref sig .tc := ⟨.hbm, 287, rfl⟩
abbrev main_v161 : Ref sig .tc := ⟨.hbm, 288, rfl⟩
abbrev main_v162 : Ref sig .tc := ⟨.hbm, 289, rfl⟩
abbrev main_v163 : Ref sig .tc := ⟨.hbm, 290, rfl⟩
abbrev main_v164 : Ref sig .tc := ⟨.hbm, 291, rfl⟩
abbrev main_v165 : Ref sig .tc := ⟨.hbm, 292, rfl⟩
abbrev main_cst_46 : Ref sig .tc := ⟨.hbm, 293, rfl⟩
abbrev main_v166 : Ref sig .tc := ⟨.hbm, 294, rfl⟩
abbrev main_v167 : Ref sig .tc := ⟨.hbm, 295, rfl⟩
abbrev main_v168 : Ref sig .tc := ⟨.hbm, 296, rfl⟩
abbrev main_v169 : Ref sig .tc := ⟨.hbm, 297, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1x96x224x224 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x96x224x224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1x96x224x224 : Shape := ⟨4, ![1, 96, 224, 224]⟩
abbrev S1x18x224x224 : Shape := ⟨4, ![1, 18, 224, 224]⟩
abbrev S1x9x224x224 : Shape := ⟨4, ![1, 9, 224, 224]⟩
abbrev S1x9x2x224x224 : Shape := ⟨5, ![1, 9, 2, 224, 224]⟩
abbrev S3 : Shape := ⟨1, ![3]⟩
abbrev S3x3 : Shape := ⟨2, ![3, 3]⟩
abbrev S9 : Shape := ⟨1, ![9]⟩
abbrev S224 : Shape := ⟨1, ![224]⟩
abbrev S_ : Shape := ⟨0, ![]⟩
abbrev S1x224x1 : Shape := ⟨3, ![1, 224, 1]⟩
abbrev S9x1x1 : Shape := ⟨3, ![9, 1, 1]⟩
abbrev S9x224x1 : Shape := ⟨3, ![9, 224, 1]⟩
abbrev S1x1x224 : Shape := ⟨3, ![1, 1, 224]⟩
abbrev S9x1x224 : Shape := ⟨3, ![9, 1, 224]⟩
abbrev S1x9x1x224x224 : Shape := ⟨5, ![1, 9, 1, 224, 224]⟩
abbrev S1x9x224x1 : Shape := ⟨4, ![1, 9, 224, 1]⟩
abbrev S1x9x1x224 : Shape := ⟨4, ![1, 9, 1, 224]⟩
abbrev S1x9x224x224x1 : Shape := ⟨5, ![1, 9, 224, 224, 1]⟩
abbrev S1x9x224x224x2 : Shape := ⟨5, ![1, 9, 224, 224, 2]⟩
abbrev S1x96x9x224x224 : Shape := ⟨5, ![1, 96, 9, 224, 224]⟩
abbrev S1x1x9x224x224 : Shape := ⟨5, ![1, 1, 9, 224, 224]⟩
abbrev S1x1x96x9x224x224 : Shape := ⟨6, ![1, 1, 96, 9, 224, 224]⟩
abbrev S1x1x1x9x224x224 : Shape := ⟨6, ![1, 1, 1, 9, 224, 224]⟩
abbrev S1x1x96x224x224 : Shape := ⟨5, ![1, 1, 96, 224, 224]⟩

abbrev nBuf : Space → Nat
  | .hbm => 321
  | .vmem => 0
  | .smem => 0
  | _ => 0

abbrev hbmTy0_0 (i : Nat) : BufTy := match i % 128 with
  | 0 => ⟨S1x96x224x224, .f32⟩
  | 1 => ⟨S1x18x224x224, .f32⟩
  | 2 => ⟨S1x9x224x224, .f32⟩
  | 3 => ⟨S1x9x2x224x224, .f32⟩
  | 4 => ⟨S3, .i32⟩
  | 5 => ⟨S3, .i32⟩
  | 6 => ⟨S3x3, .i32⟩
  | 7 => ⟨S3x3, .i32⟩
  | 8 => ⟨S9, .i32⟩
  | 9 => ⟨S9, .f32⟩
  | 10 => ⟨S9, .i32⟩
  | 11 => ⟨S9, .f32⟩
  | 12 => ⟨S224, .f32⟩
  | 13 => ⟨S_, .f32⟩
  | 14 => ⟨S224, .f32⟩
  | 15 => ⟨S224, .f32⟩
  | 16 => ⟨S_, .f32⟩
  | 17 => ⟨S224, .f32⟩
  | 18 => ⟨S224, .f32⟩
  | 19 => ⟨S1x224x1, .f32⟩
  | 20 => ⟨S_, .f32⟩
  | 21 => ⟨S9, .f32⟩
  | 22 => ⟨S9, .f32⟩
  | 23 => ⟨S9x1x1, .f32⟩
  | 24 => ⟨S9x224x1, .f32⟩
  | 25 => ⟨S9x224x1, .f32⟩
  | 26 => ⟨S9x224x1, .f32⟩
  | 27 => ⟨S224, .f32⟩
  | 28 => ⟨S_, .f32⟩
  | 29 => ⟨S224, .f32⟩
  | 30 => ⟨S224, .f32⟩
  | 31 => ⟨S_, .f32⟩
  | 32 => ⟨S224, .f32⟩
  | 33 => ⟨S224, .f32⟩
  | 34 => ⟨S1x1x224, .f32⟩
  | 35 => ⟨S_, .f32⟩
  | 36 => ⟨S9, .f32⟩
  | 37 => ⟨S9, .f32⟩
  | 38 => ⟨S9x1x1, .f32⟩
  | 39 => ⟨S9x1x224, .f32⟩
  | 40 => ⟨S9x1x224, .f32⟩
  | 41 => ⟨S9x1x224, .f32⟩
  | 42 => ⟨S1x9x1x224x224, .f32⟩
  | 43 => ⟨S1x9x224x224, .f32⟩
  | 44 => ⟨S1x9x224x1, .f32⟩
  | 45 => ⟨S1x9x224x224, .f32⟩
  | 46 => ⟨S1x9x224x224, .f32⟩
  | 47 => ⟨S1x9x1x224x224, .f32⟩
  | 48 => ⟨S1x9x224x224, .f32⟩
  | 49 => ⟨S1x9x1x224, .f32⟩
  | 50 => ⟨S1x9x224x224, .f32⟩
  | 51 => ⟨S1x9x224x224, .f32⟩
  | 52 => ⟨S1x9x224x224, .f32⟩
  | 53 => ⟨S1x9x224x224, .f32⟩
  | 54 => ⟨S1x9x224x224, .f32⟩
  | 55 => ⟨S1x9x224x224, .f32⟩
  | 56 => ⟨S_, .f32⟩
  | 57 => ⟨S1x9x224x224, .f32⟩
  | 58 => ⟨S1x9x224x224, .f32⟩
  | 59 => ⟨S_, .f32⟩
  | 60 => ⟨S1x9x224x224, .f32⟩
  | 61 => ⟨S1x9x224x224, .f32⟩
  | 62 => ⟨S_, .i32⟩
  | 63 => ⟨S_, .i32⟩
  | 64 => ⟨S_, .f32⟩
  | 65 => ⟨S1x9x224x224, .f32⟩
  | 66 => ⟨S1x9x224x224, .f32⟩
  | 67 => ⟨S_, .f32⟩
  | 68 => ⟨S1x9x224x224, .f32⟩
  | 69 => ⟨S1x9x224x224, .f32⟩
  | 70 => ⟨S1x9x224x224, .i32⟩
  | 71 => ⟨S_, .i32⟩
  | 72 => ⟨S_, .i32⟩
  | 73 => ⟨S_, .f32⟩
  | 74 => ⟨S1x9x224x224, .f32⟩
  | 75 => ⟨S1x9x224x224, .f32⟩
  | 76 => ⟨S_, .f32⟩
  | 77 => ⟨S1x9x224x224, .f32⟩
  | 78 => ⟨S1x9x224x224, .f32⟩
  | 79 => ⟨S1x9x224x224, .i32⟩
  | 80 => ⟨S_, .i32⟩
  | 81 => ⟨S1x9x224x224, .i32⟩
  | 82 => ⟨S1x9x224x224, .i1⟩
  | 83 => ⟨S_, .i32⟩
  | 84 => ⟨S1x9x224x224, .i32⟩
  | 85 => ⟨S1x9x224x224, .i32⟩
  | 86 => ⟨S1x9x224x224, .i32⟩
  | 87 => ⟨S_, .i32⟩
  | 88 => ⟨S1x9x224x224, .i32⟩
  | 89 => ⟨S1x9x224x224, .i1⟩
  | 90 => ⟨S_, .i32⟩
  | 91 => ⟨S1x9x224x224, .i32⟩
  | 92 => ⟨S1x9x224x224, .i32⟩
  | 93 => ⟨S1x9x224x224, .i32⟩
  | 94 => ⟨S1x9x224x224x1, .i32⟩
  | 95 => ⟨S1x9x224x224x1, .i32⟩
  | 96 => ⟨S1x9x224x224x2, .i32⟩
  | 97 => ⟨S1x96x9x224x224, .f32⟩
  | 98 => ⟨S_, .f32⟩
  | 99 => ⟨S1x9x224x224, .f32⟩
  | 100 => ⟨S1x9x224x224, .i1⟩
  | 101 => ⟨S_, .f32⟩
  | 102 => ⟨S1x9x224x224, .f32⟩
  | 103 => ⟨S1x9x224x224, .i1⟩
  | 104 => ⟨S1x9x224x224, .i1⟩
  | 105 => ⟨S_, .f32⟩
  | 106 => ⟨S1x9x224x224, .f32⟩
  | 107 => ⟨S1x9x224x224, .i1⟩
  | 108 => ⟨S1x9x224x224, .i1⟩
  | 109 => ⟨S_, .f32⟩
  | 110 => ⟨S1x9x224x224, .f32⟩
  | 111 => ⟨S1x9x224x224, .i1⟩
  | 112 => ⟨S1x9x224x224, .i1⟩
  | 113 => ⟨S1x9x224x224, .f32⟩
  | 114 => ⟨S1x1x9x224x224, .f32⟩
  | 115 => ⟨S1x96x9x224x224, .f32⟩
  | 116 => ⟨S1x96x9x224x224, .f32⟩
  | 117 => ⟨S_, .f32⟩
  | 118 => ⟨S1x9x224x224, .f32⟩
  | 119 => ⟨S1x9x224x224, .f32⟩
  | 120 => ⟨S_, .f32⟩
  | 121 => ⟨S1x9x224x224, .f32⟩
  | 122 => ⟨S1x9x224x224, .f32⟩
  | 123 => ⟨S1x9x224x224, .f32⟩
  | 124 => ⟨S1x1x9x224x224, .f32⟩
  | 125 => ⟨S1x96x9x224x224, .f32⟩
  | 126 => ⟨S1x96x9x224x224, .f32⟩
  | 127 => ⟨S_, .i32⟩
  | _ => ⟨S1x96x224x224, .f32⟩

abbrev hbmTy0_1 (i : Nat) : BufTy := match i % 128 with
  | 0 => ⟨S_, .i32⟩
  | 1 => ⟨S_, .f32⟩
  | 2 => ⟨S1x9x224x224, .f32⟩
  | 3 => ⟨S1x9x224x224, .f32⟩
  | 4 => ⟨S_, .f32⟩
  | 5 => ⟨S1x9x224x224, .f32⟩
  | 6 => ⟨S1x9x224x224, .f32⟩
  | 7 => ⟨S1x9x224x224, .i32⟩
  | 8 => ⟨S_, .i32⟩
  | 9 => ⟨S_, .i32⟩
  | 10 => ⟨S_, .f32⟩
  | 11 => ⟨S1x9x224x224, .f32⟩
  | 12 => ⟨S1x9x224x224, .f32⟩
  | 13 => ⟨S_, .f32⟩
  | 14 => ⟨S1x9x224x224, .f32⟩
  | 15 => ⟨S1x9x224x224, .f32⟩
  | 16 => ⟨S1x9x224x224, .i32⟩
  | 17 => ⟨S_, .i32⟩
  | 18 => ⟨S1x9x224x224, .i32⟩
  | 19 => ⟨S1x9x224x224, .i1⟩
  | 20 => ⟨S_, .i32⟩
  | 21 => ⟨S1x9x224x224, .i32⟩
  | 22 => ⟨S1x9x224x224, .i32⟩
  | 23 => ⟨S1x9x224x224, .i32⟩
  | 24 => ⟨S_, .i32⟩
  | 25 => ⟨S1x9x224x224, .i32⟩
  | 26 => ⟨S1x9x224x224, .i1⟩
  | 27 => ⟨S_, .i32⟩
  | 28 => ⟨S1x9x224x224, .i32⟩
  | 29 => ⟨S1x9x224x224, .i32⟩
  | 30 => ⟨S1x9x224x224, .i32⟩
  | 31 => ⟨S1x9x224x224x1, .i32⟩
  | 32 => ⟨S1x9x224x224x1, .i32⟩
  | 33 => ⟨S1x9x224x224x2, .i32⟩
  | 34 => ⟨S1x96x9x224x224, .f32⟩
  | 35 => ⟨S_, .f32⟩
  | 36 => ⟨S1x9x224x224, .f32⟩
  | 37 => ⟨S1x9x224x224, .i1⟩
  | 38 => ⟨S_, .f32⟩
  | 39 => ⟨S1x9x224x224, .f32⟩
  | 40 => ⟨S1x9x224x224, .i1⟩
  | 41 => ⟨S1x9x224x224, .i1⟩
  | 42 => ⟨S_, .f32⟩
  | 43 => ⟨S1x9x224x224, .f32⟩
  | 44 => ⟨S1x9x224x224, .i1⟩
  | 45 => ⟨S1x9x224x224, .i1⟩
  | 46 => ⟨S_, .f32⟩
  | 47 => ⟨S1x9x224x224, .f32⟩
  | 48 => ⟨S1x9x224x224, .i1⟩
  | 49 => ⟨S1x9x224x224, .i1⟩
  | 50 => ⟨S1x9x224x224, .f32⟩
  | 51 => ⟨S1x1x9x224x224, .f32⟩
  | 52 => ⟨S1x96x9x224x224, .f32⟩
  | 53 => ⟨S1x96x9x224x224, .f32⟩
  | 54 => ⟨S_, .f32⟩
  | 55 => ⟨S1x9x224x224, .f32⟩
  | 56 => ⟨S1x9x224x224, .f32⟩
  | 57 => ⟨S1x9x224x224, .f32⟩
  | 58 => ⟨S1x1x9x224x224, .f32⟩
  | 59 => ⟨S1x96x9x224x224, .f32⟩
  | 60 => ⟨S1x96x9x224x224, .f32⟩
  | 61 => ⟨S1x96x9x224x224, .f32⟩
  | 62 => ⟨S_, .i32⟩
  | 63 => ⟨S_, .i32⟩
  | 64 => ⟨S_, .f32⟩
  | 65 => ⟨S1x9x224x224, .f32⟩
  | 66 => ⟨S1x9x224x224, .f32⟩
  | 67 => ⟨S_, .f32⟩
  | 68 => ⟨S1x9x224x224, .f32⟩
  | 69 => ⟨S1x9x224x224, .f32⟩
  | 70 => ⟨S1x9x224x224, .i32⟩
  | 71 => ⟨S_, .i32⟩
  | 72 => ⟨S_, .i32⟩
  | 73 => ⟨S_, .f32⟩
  | 74 => ⟨S1x9x224x224, .f32⟩
  | 75 => ⟨S1x9x224x224, .f32⟩
  | 76 => ⟨S_, .f32⟩
  | 77 => ⟨S1x9x224x224, .f32⟩
  | 78 => ⟨S1x9x224x224, .f32⟩
  | 79 => ⟨S1x9x224x224, .i32⟩
  | 80 => ⟨S_, .i32⟩
  | 81 => ⟨S1x9x224x224, .i32⟩
  | 82 => ⟨S1x9x224x224, .i1⟩
  | 83 => ⟨S_, .i32⟩
  | 84 => ⟨S1x9x224x224, .i32⟩
  | 85 => ⟨S1x9x224x224, .i32⟩
  | 86 => ⟨S1x9x224x224, .i32⟩
  | 87 => ⟨S_, .i32⟩
  | 88 => ⟨S1x9x224x224, .i32⟩
  | 89 => ⟨S1x9x224x224, .i1⟩
  | 90 => ⟨S_, .i32⟩
  | 91 => ⟨S1x9x224x224, .i32⟩
  | 92 => ⟨S1x9x224x224, .i32⟩
  | 93 => ⟨S1x9x224x224, .i32⟩
  | 94 => ⟨S1x9x224x224x1, .i32⟩
  | 95 => ⟨S1x9x224x224x1, .i32⟩
  | 96 => ⟨S1x9x224x224x2, .i32⟩
  | 97 => ⟨S1x96x9x224x224, .f32⟩
  | 98 => ⟨S_, .f32⟩
  | 99 => ⟨S1x9x224x224, .f32⟩
  | 100 => ⟨S1x9x224x224, .i1⟩
  | 101 => ⟨S_, .f32⟩
  | 102 => ⟨S1x9x224x224, .f32⟩
  | 103 => ⟨S1x9x224x224, .i1⟩
  | 104 => ⟨S1x9x224x224, .i1⟩
  | 105 => ⟨S_, .f32⟩
  | 106 => ⟨S1x9x224x224, .f32⟩
  | 107 => ⟨S1x9x224x224, .i1⟩
  | 108 => ⟨S1x9x224x224, .i1⟩
  | 109 => ⟨S_, .f32⟩
  | 110 => ⟨S1x9x224x224, .f32⟩
  | 111 => ⟨S1x9x224x224, .i1⟩
  | 112 => ⟨S1x9x224x224, .i1⟩
  | 113 => ⟨S1x9x224x224, .f32⟩
  | 114 => ⟨S1x1x9x224x224, .f32⟩
  | 115 => ⟨S1x96x9x224x224, .f32⟩
  | 116 => ⟨S1x96x9x224x224, .f32⟩
  | 117 => ⟨S_, .f32⟩
  | 118 => ⟨S1x9x224x224, .f32⟩
  | 119 => ⟨S1x9x224x224, .f32⟩
  | 120 => ⟨S1x9x224x224, .f32⟩
  | 121 => ⟨S1x1x9x224x224, .f32⟩
  | 122 => ⟨S1x96x9x224x224, .f32⟩
  | 123 => ⟨S1x96x9x224x224, .f32⟩
  | 124 => ⟨S1x96x9x224x224, .f32⟩
  | 125 => ⟨S_, .i32⟩
  | 126 => ⟨S_, .i32⟩
  | 127 => ⟨S_, .f32⟩
  | _ => ⟨S1x96x224x224, .f32⟩

abbrev hbmTy0_2 (i : Nat) : BufTy := match i % 128 with
  | 0 => ⟨S1x9x224x224, .f32⟩
  | 1 => ⟨S1x9x224x224, .f32⟩
  | 2 => ⟨S_, .f32⟩
  | 3 => ⟨S1x9x224x224, .f32⟩
  | 4 => ⟨S1x9x224x224, .f32⟩
  | 5 => ⟨S1x9x224x224, .i32⟩
  | 6 => ⟨S_, .i32⟩
  | 7 => ⟨S_, .i32⟩
  | 8 => ⟨S_, .f32⟩
  | 9 => ⟨S1x9x224x224, .f32⟩
  | 10 => ⟨S1x9x224x224, .f32⟩
  | 11 => ⟨S_, .f32⟩
  | 12 => ⟨S1x9x224x224, .f32⟩
  | 13 => ⟨S1x9x224x224, .f32⟩
  | 14 => ⟨S1x9x224x224, .i32⟩
  | 15 => ⟨S_, .i32⟩
  | 16 => ⟨S1x9x224x224, .i32⟩
  | 17 => ⟨S1x9x224x224, .i1⟩
  | 18 => ⟨S_, .i32⟩
  | 19 => ⟨S1x9x224x224, .i32⟩
  | 20 => ⟨S1x9x224x224, .i32⟩
  | 21 => ⟨S1x9x224x224, .i32⟩
  | 22 => ⟨S_, .i32⟩
  | 23 => ⟨S1x9x224x224, .i32⟩
  | 24 => ⟨S1x9x224x224, .i1⟩
  | 25 => ⟨S_, .i32⟩
  | 26 => ⟨S1x9x224x224, .i32⟩
  | 27 => ⟨S1x9x224x224, .i32⟩
  | 28 => ⟨S1x9x224x224, .i32⟩
  | 29 => ⟨S1x9x224x224x1, .i32⟩
  | 30 => ⟨S1x9x224x224x1, .i32⟩
  | 31 => ⟨S1x9x224x224x2, .i32⟩
  | 32 => ⟨S1x96x9x224x224, .f32⟩
  | 33 => ⟨S_, .f32⟩
  | 34 => ⟨S1x9x224x224, .f32⟩
  | 35 => ⟨S1x9x224x224, .i1⟩
  | 36 => ⟨S_, .f32⟩
  | 37 => ⟨S1x9x224x224, .f32⟩
  | 38 => ⟨S1x9x224x224, .i1⟩
  | 39 => ⟨S1x9x224x224, .i1⟩
  | 40 => ⟨S_, .f32⟩
  | 41 => ⟨S1x9x224x224, .f32⟩
  | 42 => ⟨S1x9x224x224, .i1⟩
  | 43 => ⟨S1x9x224x224, .i1⟩
  | 44 => ⟨S_, .f32⟩
  | 45 => ⟨S1x9x224x224, .f32⟩
  | 46 => ⟨S1x9x224x224, .i1⟩
  | 47 => ⟨S1x9x224x224, .i1⟩
  | 48 => ⟨S1x9x224x224, .f32⟩
  | 49 => ⟨S1x1x9x224x224, .f32⟩
  | 50 => ⟨S1x96x9x224x224, .f32⟩
  | 51 => ⟨S1x96x9x224x224, .f32⟩
  | 52 => ⟨S1x9x224x224, .f32⟩
  | 53 => ⟨S1x1x9x224x224, .f32⟩
  | 54 => ⟨S1x96x9x224x224, .f32⟩
  | 55 => ⟨S1x96x9x224x224, .f32⟩
  | 56 => ⟨S1x96x9x224x224, .f32⟩
  | 57 => ⟨S1x1x9x224x224, .f32⟩
  | 58 => ⟨S1x1x96x9x224x224, .f32⟩
  | 59 => ⟨S1x1x1x9x224x224, .f32⟩
  | 60 => ⟨S1x1x96x9x224x224, .f32⟩
  | 61 => ⟨S1x1x96x9x224x224, .f32⟩
  | 62 => ⟨S_, .f32⟩
  | 63 => ⟨S1x1x96x224x224, .f32⟩
  | 64 => ⟨S1x96x224x224, .f32⟩
  | _ => ⟨S1x96x224x224, .f32⟩

abbrev hbmTy (i : Nat) : BufTy := match i / 128 with
  | 0 => hbmTy0_0 i
  | 1 => hbmTy0_1 i
  | 2 => hbmTy0_2 i
  | _ => ⟨S1x96x224x224, .f32⟩

abbrev bufTy : (tb : Table) → Fin (tcTables nBuf tb) → BufTy
  | .hbm, ⟨i, _⟩ => hbmTy i
  | _, _ => ⟨S1x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_5 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_c : Ref sig .tc := ⟨.hbm, 62, rfl⟩
abbrev main_c_7 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v51 : Ref sig .tc := ⟨.hbm, 69, rfl⟩
abbrev main_v52 : Ref sig .tc := ⟨.hbm, 70, rfl⟩
abbrev main_c_8 : Ref sig .tc := ⟨.hbm, 71, rfl⟩
abbrev main_c_9 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_17 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_cst_19 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_c_20 : Ref sig .tc := ⟨.hbm, 127, rfl⟩
abbrev main_c_21 : Ref sig .tc := ⟨.hbm, 128, rfl⟩
abbrev main_call2_v0 : Ref sig .tc := ⟨.hbm, 129, rfl⟩
abbrev main_call2_v1 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_v92 : Ref sig .tc := ⟨.hbm, 134, rfl⟩
abbrev main_v93 : Ref sig .tc := ⟨.hbm, 135, rfl⟩
abbrev main_c_22 : Ref sig .tc := ⟨.hbm, 136, rfl⟩
abbrev main_c_23 : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_v94 : Ref sig .tc := ⟨.hbm, 143, rfl⟩
abbrev main_v95 : Ref sig .tc := ⟨.hbm, 144, rfl⟩
abbrev main_c_24 : Ref sig .tc := ⟨.hbm, 145, rfl⟩
abbrev main_v96 : Ref sig .tc := ⟨.hbm, 146, rfl⟩
abbrev main_v97 : Ref sig .tc := ⟨.hbm, 147, rfl⟩
abbrev main_c_25 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_c_26 : Ref sig .tc := ⟨.hbm, 152, rfl⟩
abbrev main_v101 : Ref sig .tc := ⟨.hbm, 153, rfl⟩
abbrev main_v102 : Ref sig .tc := ⟨.hbm, 154, rfl⟩
abbrev main_c_27 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_28 : Ref sig .tc := ⟨.hbm, 163, rfl⟩
abbrev main_v110 : Ref sig .tc := ⟨.hbm, 164, rfl⟩
abbrev main_v111 : Ref sig .tc := ⟨.hbm, 165, rfl⟩
abbrev main_cst_29 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_cst_30 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_cst_31 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_cst_32 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_c_33 : Ref sig .tc := ⟨.hbm, 190, rfl⟩
abbrev main_c_34 : Ref sig .tc := ⟨.hbm, 191, rfl⟩
abbrev main_call4_v0 : Ref sig .tc := ⟨.hbm, 192, rfl⟩
abbrev main_call4_v1 : Ref sig .tc := ⟨.hbm, 193, rfl⟩
abbrev main_call4_v2 : Ref sig .tc := ⟨.hbm, 194, rfl⟩
abbrev main_call4_v3 : Ref sig .tc := ⟨.hbm, 195, rfl⟩
abbrev main_call4_v4 : Ref sig .tc := ⟨.hbm, 196, rfl⟩
abbrev main_v132 : Ref sig .tc := ⟨.hbm, 197, rfl⟩
abbrev main_v133 : Ref sig .tc := ⟨.hbm, 198, rfl⟩
abbrev main_c_35 : Ref sig .tc := ⟨.hbm, 199, rfl⟩
abbrev main_c_36 : Ref sig .tc := ⟨.hbm, 200, rfl⟩
abbrev main_call5_v0 : Ref sig .tc := ⟨.hbm, 201, rfl⟩
abbrev main_call5_v1 : Ref sig .tc := ⟨.hbm, 202, rfl⟩
abbrev main_call5_v2 : Ref sig .tc := ⟨.hbm, 203, rfl⟩
abbrev main_call5_v3 : Ref sig .tc := ⟨.hbm, 204, rfl⟩
abbrev main_call5_v4 : Ref sig .tc := ⟨.hbm, 205, rfl⟩
abbrev main_v134 : Ref sig .tc := ⟨.hbm, 206, rfl⟩
abbrev main_v135 : Ref sig .tc := ⟨.hbm, 207, rfl⟩
abbrev main_c_37 : Ref sig .tc := ⟨.hbm, 208, rfl⟩
abbrev main_v136 : Ref sig .tc := ⟨.hbm, 209, rfl⟩
abbrev main_v137 : Ref sig .tc := ⟨.hbm, 210, rfl⟩
abbrev main_c_38 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_c_39 : Ref sig .tc := ⟨.hbm, 215, rfl⟩
abbrev main_v141 : Ref sig .tc := ⟨.hbm, 216, rfl⟩
abbrev main_v142 : Ref sig .tc := ⟨.hbm, 217, rfl⟩
abbrev main_c_40 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_cst_41 : Ref sig .tc := ⟨.hbm, 226, rfl⟩
abbrev main_v150 : Ref sig .tc := ⟨.hbm, 227, rfl⟩
abbrev main_v151 : Ref sig .tc := ⟨.hbm, 228, rfl⟩
abbrev main_cst_42 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_cst_43 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_cst_44 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_cst_45 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_c_46 : Ref sig .tc := ⟨.hbm, 253, rfl⟩
abbrev main_c_47 : Ref sig .tc := ⟨.hbm, 254, rfl⟩
abbrev main_call6_v0 : Ref sig .tc := ⟨.hbm, 255, rfl⟩
abbrev main_call6_v1 : Ref sig .tc := ⟨.hbm, 256, rfl⟩
abbrev main_call6_v2 : Ref sig .tc := ⟨.hbm, 257, rfl⟩
abbrev main_call6_v3 : Ref sig .tc := ⟨.hbm, 258, rfl⟩
abbrev main_call6_v4 : Ref sig .tc := ⟨.hbm, 259, rfl⟩
abbrev main_v172 : Ref sig .tc := ⟨.hbm, 260, rfl⟩
abbrev main_v173 : Ref sig .tc := ⟨.hbm, 261, rfl⟩
abbrev main_c_48 : Ref sig .tc := ⟨.hbm, 262, rfl⟩
abbrev main_c_49 : Ref sig .tc := ⟨.hbm, 263, rfl⟩
abbrev main_call7_v0 : Ref sig .tc := ⟨.hbm, 264, rfl⟩
abbrev main_call7_v1 : Ref sig .tc := ⟨.hbm, 265, rfl⟩
abbrev main_call7_v2 : Ref sig .tc := ⟨.hbm, 266, rfl⟩
abbrev main_call7_v3 : Ref sig .tc := ⟨.hbm, 267, rfl⟩
abbrev main_call7_v4 : Ref sig .tc := ⟨.hbm, 268, rfl⟩
abbrev main_v174 : Ref sig .tc := ⟨.hbm, 269, rfl⟩
abbrev main_v175 : Ref sig .tc := ⟨.hbm, 270, rfl⟩
abbrev main_c_50 : Ref sig .tc := ⟨.hbm, 271, rfl⟩
abbrev main_v176 : Ref sig .tc := ⟨.hbm, 272, rfl⟩
abbrev main_v177 : Ref sig .tc := ⟨.hbm, 273, rfl⟩
abbrev main_c_51 : Ref sig .tc := ⟨.hbm, 274, rfl⟩
abbrev main_v178 : Ref sig .tc := ⟨.hbm, 275, rfl⟩
abbrev main_v179 : Ref sig .tc := ⟨.hbm, 276, rfl⟩
abbrev main_v180 : Ref sig .tc := ⟨.hbm, 277, rfl⟩
abbrev main_c_52 : Ref sig .tc := ⟨.hbm, 278, rfl⟩
abbrev main_v181 : Ref sig .tc := ⟨.hbm, 279, rfl⟩
abbrev main_v182 : Ref sig .tc := ⟨.hbm, 280, rfl⟩
abbrev main_c_53 : Ref sig .tc := ⟨.hbm, 281, rfl⟩
abbrev main_v183 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_cst_54 : Ref sig .tc := ⟨.hbm, 289, rfl⟩
abbrev main_v190 : Ref sig .tc := ⟨.hbm, 290, rfl⟩
abbrev main_v191 : Ref sig .tc := ⟨.hbm, 291, rfl⟩
abbrev main_cst_55 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_cst_56 : Ref sig .tc := ⟨.hbm, 296, rfl⟩
abbrev main_v195 : Ref sig .tc := ⟨.hbm, 297, rfl⟩
abbrev main_v196 : Ref sig .tc := ⟨.hbm, 298, rfl⟩
abbrev main_v197 : Ref sig .tc := ⟨.hbm, 299, rfl⟩
abbrev main_cst_57 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_v213 : Ref sig .tc := ⟨.hbm, 316, rfl⟩
abbrev main_v214 : Ref sig .tc := ⟨.hbm, 317, rfl⟩
abbrev main_cst_58 : Ref sig .tc := ⟨.hbm, 318, rfl⟩
abbrev main_v215 : Ref sig .tc := ⟨.hbm, 319, rfl⟩
abbrev main_v216 : Ref sig .tc := ⟨.hbm, 320, rfl⟩

abbrev nD : Nat := 1
abbrev τ : Topo := Topo.v7x

variable {F : FTy → Type} [FloatOps F]
-- ==== Proof.Stages.lean ====
module

public import proofs.«01_k».proof.Proof.Gen.KernelIdeal.Launch

/-! The kernel's host computation, cut into the handful of named array functions it is made of. -/

@[expose] public section

noncomputable section

namespace Cert.KernelIdeal.Stages

open Cert.KernelIdeal Cert.KernelIdeal.Gen Idealize.ShloMosaic Idealize.ShloMosaic.TcCoe

variable {F : FTy → Type} [FloatOps F]

/-- The image as a table of pixels: one row of 96 channels per pixel. -/
def pixelRows (x : FVec F S1x96x224x224 .f32) : FVec F S50176x96 .f32 :=
  transpose S50176x96 [1, 0] (shapeCast S96x50176 x shapeCasts_S1x96x224x224_S96x50176) transposes_S96x50176_S50176x96_1_0

/-- The offsets as nine pairs (vertical, horizontal) per output pixel. -/
def offsetPairs (x : FVec F S1x18x224x224 .f32) : FVec F S9x2x224x224 .f32 :=
  shapeCast S9x2x224x224 (shapeCast S18x224x224 x shapeCasts_S1x18x224x224_S18x224x224) shapeCasts_S18x224x224_S9x2x224x224

/-- The nine tap weights per output pixel. -/
def tapWeights (x : FVec F S1x9x224x224 .f32) : FVec F S9x224x224 .f32 :=
  shapeCast S9x224x224 x shapeCasts_S1x9x224x224_S9x224x224

/-- A scalar repeated over the nine taps. -/
abbrev nine {w : Nat} (x : IVec S_ w) : IVec S9 w := broadcastInDim S9 ![] bcast_S_S9 x

/-- Division rounded down, as the program writes it from the truncating one. -/
def divDown (n : IVec S9 32) (d : IVec S_ 32) : IVec S9 32 :=
  select (andi (cmpi .ne (signi n) (nine (signi d))) (cmpi .ne (Host.remsi n (nine d)) (nine (constantI S_ 32 0#32))))
    (subi (Host.divsi n (nine d)) (nine (constantI S_ 32 1#32))) (Host.divsi n (nine d))

/-- The divisor of a remainder, a zero replaced by one. -/
def modDen (d : IVec S_ 32) : IVec S_ 32 :=
  select (cmpi .eq d (constantI S_ 32 0#32)) (constantI S_ 32 1#32) d

/-- The remainder of the division rounded down, as the program writes it from the truncating one. -/
def modDown (n : IVec S9 32) (d : IVec S_ 32) : IVec S9 32 :=
  select (andi (cmpi .ne (cmpi .slt (Host.remsi n (nine (modDen d))) (nine (constantI S_ 32 0#32)))
        (nine (cmpi .slt (modDen d) (constantI S_ 32 0#32))))
      (cmpi .ne (Host.remsi n (nine (modDen d))) (nine (constantI S_ 32 0#32))))
    (addi (Host.remsi n (nine (modDen d))) (nine (modDen d))) (Host.remsi n (nine (modDen d)))

/-- A tap coordinate as a column of floats. -/
def tapColumn (k : IVec S9 32) : FVec F S9x1x1 .f32 := broadcastInDim S9x1x1 ![0] bcast_S9_S9x1x1_0 (sitofp .f32 k)

/-- The vertical position each tap samples at. -/
def rowPos (k : FVec F S9x1x1 .f32) (o : FVec F S9x2x224x224 .f32) : FVec F S9x224x224 .f32 :=
  addf (broadcastInDim S9x224x224 ![0, 1, 2] bcast_S9x224x1_S9x224x224_0_1_2
      (addf (broadcastInDim S9x224x1 ![0, 1, 2] bcast_S1x224x1_S9x224x1_0_1_2
          (subf (broadcastInDim S1x224x1 ![1] bcast_S224_S1x224x1_1 (sitofp .f32 (iotaInDim S224 32 0)))
            (broadcastInDim S1x224x1 ![] bcast_S_S1x224x1 (constant S_ .f32 0x3F800000#32))))
        (broadcastInDim S9x224x1 ![0, 1, 2] bcast_S9x1x1_S9x224x1_0_1_2 k)))
    (shapeCast S9x224x224 (extractStridedSlice S9x1x224x224 ![0, 0, 0, 0] o slices_S9x2x224x224_S9x1x224x224_0_0_0_0)
      shapeCasts_S9x1x224x224_S9x224x224)

/-- The horizontal position each tap samples at. -/
def colPos (k : FVec F S9x1x1 .f32) (o : FVec F S9x2x224x224 .f32) : FVec F S9x224x224 .f32 :=
  addf (broadcastInDim S9x224x224 ![0, 1, 2] bcast_S9x1x224_S9x224x224_0_1_2
      (addf (broadcastInDim S9x1x224 ![0, 1, 2] bcast_S1x1x224_S9x1x224_0_1_2
          (subf (broadcastInDim S1x1x224 ![2] bcast_S224_S1x1x224_2 (sitofp .f32 (iotaInDim S224 32 0)))
            (broadcastInDim S1x1x224 ![] bcast_S_S1x1x224 (constant S_ .f32 0x3F800000#32))))
        (broadcastInDim S9x1x224 ![0, 1, 2] bcast_S9x1x1_S9x1x224_0_1_2 k)))
    (shapeCast S9x224x224 (extractStridedSlice S9x1x224x224 ![0, 1, 0, 0] o slices_S9x2x224x224_S9x1x224x224_0_1_0_0)
      shapeCasts_S9x1x224x224_S9x224x224)

/-- A scalar repeated over taps and pixels. -/
abbrev splat {α : Type} (x : S_.Idx → α) : S9x224x224.Idx → α := broadcastInDim S9x224x224 ![] bcast_S_S9x224x224 x

/-- One minus an array. -/
def oneMinus (x : FVec F S9x224x224 .f32) : FVec F S9x224x224 .f32 := subf (splat (constant S_ .f32 0x3F800000#32)) x

/-- An array plus one. -/
def plusOne (x : FVec F S9x224x224 .f32) : FVec F S9x224x224 .f32 := addf x (splat (constant S_ .f32 0x3F800000#32))

/-- One where the corner lies in the image, zero elsewhere. -/
def inside (y x : FVec F S9x224x224 .f32) : FVec F S9x224x224 .f32 :=
  uitofp .f32 (andi (andi (andi (cmpf .oge y (splat (constant S_ .f32 0x00000000#32))) (cmpf .ole y (splat (constant S_ .f32 0x435F0000#32))))
    (cmpf .oge x (splat (constant S_ .f32 0x00000000#32)))) (cmpf .ole x (splat (constant S_ .f32 0x435F0000#32))))

/-- A coordinate held between two integer bounds. -/
def clampTo (lo hi : IVec S_ 32) (x : FVec F S9x224x224 .f32) : FVec F S9x224x224 .f32 :=
  minimumf (splat (sitofp .f32 hi)) (maximumf (splat (sitofp .f32 lo)) x)

/-- The pixel number of a row and a column number. -/
def pixelOf (y x : IVec S9x224x224 32) : IVec S9x224x224 32 := addi (muli y (splat (constantI S_ 32 224#32))) x

/-- A corner's coefficient: tap weight, vertical weight, horizontal weight and the in-image flag multiplied. -/
def coefOf (w wy wx m : FVec F S9x224x224 .f32) : FVec F S9x224x224 .f32 := mulf (mulf (mulf w wy) wx) m

/-- Four arrays, one per corner, side by side. -/
def four {e : EltTy} (a b c d : S9x224x224.Idx → Elt F e) : S9x4x224x224.Idx → Elt F e :=
  concatenate S9x4x224x224 1 [⟨S9x1x224x224, broadcastInDim S9x1x224x224 ![0, 2, 3] bcast_S9x224x224_S9x1x224x224_0_2_3 a⟩,
    ⟨S9x1x224x224, broadcastInDim S9x1x224x224 ![0, 2, 3] bcast_S9x224x224_S9x1x224x224_0_2_3 b⟩,
    ⟨S9x1x224x224, broadcastInDim S9x1x224x224 ![0, 2, 3] bcast_S9x224x224_S9x1x224x224_0_2_3 c⟩,
    ⟨S9x1x224x224, broadcastInDim S9x1x224x224 ![0, 2, 3] bcast_S9x224x224_S9x1x224x224_0_2_3 d⟩]
    concatenates_S9x1x224x224_S9x1x224x224_S9x1x224x224_S9x1x224x224_S9x4x224x224_d1

/-- Thirty-six values per pixel, listed pixel by pixel. -/
def listed {α : Type} (x : S9x4x224x224.Idx → α) : S1806336.Idx → α :=
  shapeCast S1806336 (transpose S50176x36 [1, 0] (shapeCast S36x50176 x shapeCasts_S9x4x224x224_S36x50176)
    transposes_S36x50176_S50176x36_1_0) shapeCasts_S50176x36_S1806336

/-- A list of pixel numbers, a negative one counted from the end, as a column. -/
def wrapped (i : IVec S1806336 32) : IVec S1806336x1 32 :=
  broadcastInDim S1806336x1 ![0] bcast_S1806336_S1806336x1_0
    (select (cmpi .slt i (broadcastInDim S1806336 ![] bcast_S_S1806336 (constantI S_ 32 0#32)))
      (addi i (broadcastInDim S1806336 ![] bcast_S_S1806336 (constantI S_ 32 50176#32))) i)

/-- The pixel rows named by the list, each times its coefficient. -/
def products (r : FVec F S50176x96 .f32) (i : IVec S1806336 32) (c : FVec F S1806336 .f32) : FVec F S50176x36x96 .f32 :=
  mulf (shapeCast S50176x36x96 (Host.gather gather_S50176x96_S1806336x1_S1806336x96_1_0_n_n_0_1_196 r (wrapped i))
      shapeCasts_S1806336x96_S50176x36x96)
    (broadcastInDim S50176x36x96 ![0, 1, 2] bcast_S50176x36x1_S50176x36x96_0_1_2 (shapeCast S50176x36x1 c shapeCasts_S1806336_S50176x36x1))

/-- The thirty-six products of each pixel and channel summed, laid out as the result image. -/
def summed (p : FVec F S50176x36x96 .f32) : FVec F S1x96x224x224 .f32 :=
  shapeCast S1x96x224x224 (transpose S96x50176 [1, 0]
    (Host.reduceAdd p (constant S_ .f32 0x00000000#32) reducesTo_S50176x36x96_S50176x96_d1 h_S_)
    transposes_S50176x96_S96x50176_1_0) shapeCasts_S96x50176_S1x96x224x224

end Cert.KernelIdeal.Stages

end
-- ==== Proof.HostRun.lean ====
module

public import proofs.«01_k».proof.Proof.Stages
public import Idealize.ShloMosaic.Lib.StableHlo.RunRead
public import Idealize.ShloMosaic.Lib.Pipeline.Frame

/-! What the stretches of the kernel's host operations leave in the buffers read later, each as a named array function of
what the stretch found. -/

@[expose] public section

set_option maxRecDepth 8192
set_option maxHeartbeats 2000000

noncomputable section

namespace Cert.KernelIdeal.HostRun

open Cert.KernelIdeal Cert.KernelIdeal.Gen Cert.KernelIdeal.Stages Idealize.ShloMosaic Idealize.ShloMosaic.TcCoe
open Idealize.ShloMosaic.StableHlo

variable {F : FTy → Type} [FloatOps F]

/-- What a device's buffers hold. -/
abbrev Contents (F : FTy → Type) := Valuation τ sig (Elt F)

/-! ## The stretches and what they leave alone -/

/-- The positions' parts: what the stretch leaves. -/
def stepA (X : Contents F) : Contents F :=
  after (hostOps0 ++ (hostOps0_1 ++ (hostOps0_2 ++ (hostOps0_3)))) X

/-- What the stretch writes. -/
abbrev wroteA : List (Ref sig .tc) := [
  main_v0, main_v1, main_v2, main_v3, main_v4, main_v5, main_c, main_call0_v0, main_call0_v1, main_call0_v2,
  main_call0_v3, main_call0_v4, main_call0_v5, main_call0_v6, main_call0_v7, main_call0_v8, main_call0_c,
  main_call0_v9, main_call0_v10, main_call0_v11, main_call0_c_0, main_call0_v12, main_call0_v13, main_v6,
  main_v7, main_v8, main_v9, main_c_0, main_call1_v0, main_call1_c, main_call1_v1, main_call1_c_0,
  main_call1_v2, main_call1_v3, main_call1_v4, main_call1_c_1, main_call1_v5, main_call1_v6, main_call1_c_2,
  main_call1_v7, main_call1_v8, main_call1_c_3, main_call1_v9, main_call1_v10, main_call1_v11, main_call1_v12,
  main_call1_v13, main_call1_v14, main_v10]

/-- The stretch leaves every other buffer alone. -/
theorem keepA (X : Contents F) (r : Ref sig .tc) (h : r ∉ wroteA) :
    stepA X (no_index (Proc.devRef .tc r)) = X (Proc.devRef .tc r) :=
  after_of_writes_sub _ X (forall_writes_sub_of_map rfl) h

/-- The first corner: what the stretch leaves. -/
def stepB (X : Contents F) : Contents F :=
  after (hostOps0_4 ++ (hostOps0_5 ++ (hostOps0_6 ++ (hostOps0_7 ++ (hostOps0_8))))) X

/-- What the stretch writes. -/
abbrev wroteB : List (Ref sig .tc) := [
  main_v11, main_v12, main_v13, main_v14, main_v15, main_v16, main_cst, main_v17, main_v18, main_v19,
  main_v20, main_v21, main_v22, main_v23, main_v24, main_v25, main_cst_1, main_v26, main_v27, main_v28,
  main_v29, main_v30, main_v31, main_v32, main_v33, main_v34, main_v35, main_v36, main_v37, main_v38,
  main_cst_2, main_v39, main_v40, main_cst_3, main_v41, main_v42, main_cst_4, main_v43, main_v44, main_cst_5,
  main_v45, main_v46, main_cst_6, main_v47, main_v48, main_cst_7, main_v49, main_v50, main_v51, main_cst_8,
  main_v52, main_v53, main_v54, main_cst_9, main_v55, main_v56, main_v57, main_v58, main_c_10, main_c_11,
  main_call2_v0, main_call2_v1, main_call2_v2, main_call2_v3, main_call2_v4, main_v59, main_v60, main_c_12,
  main_c_13, main_call3_v0, main_call3_v1, main_call3_v2, main_call3_v3, main_call3_v4, main_v61, main_v62,
  main_c_14, main_v63, main_v64, main_v65, main_v66, main_v67, main_v68, main_cst_15, main_v69, main_v70,
  main_cst_16, main_v71, main_v72, main_v73, main_cst_17, main_v74, main_v75, main_v76, main_cst_18, main_v77,
  main_v78, main_v79, main_v80, main_c_19, main_c_20]

/-- The stretch leaves every other buffer alone. -/
theorem keepB (X : Contents F) (r : Ref sig .tc) (h : r ∉ wroteB) :
    stepB X (no_index (Proc.devRef .tc r)) = X (Proc.devRef .tc r) :=
  after_of_writes_sub _ X (forall_writes_sub_of_map rfl) h

/-- The second corner: what the stretch leaves. -/
def stepC (X : Contents F) : Contents F :=
  after (hostOps0_9 ++ (hostOps0_10 ++ (hostOps0_11 ++ (hostOps0_12)))) X

/-- What the stretch writes. -/
abbrev wroteC : List (Ref sig .tc) := [
  main_call4_v0, main_call4_v1, main_call4_v2, main_call4_v3, main_call4_v4, main_v81, main_v82, main_c_21,
  main_c_22, main_call5_v0, main_call5_v1, main_call5_v2, main_call5_v3, main_call5_v4, main_v83, main_v84,
  main_c_23, main_v85, main_v86, main_v87, main_v88, main_v89, main_v90, main_cst_24, main_v91, main_v92,
  main_cst_25, main_v93, main_v94, main_cst_26, main_v95, main_v96, main_cst_27, main_v97, main_v98, main_v99,
  main_cst_28, main_v100, main_v101, main_v102, main_cst_29, main_v103, main_v104, main_v105, main_v106,
  main_c_30, main_c_31]

/-- The stretch leaves every other buffer alone. -/
theorem keepC (X : Contents F) (r : Ref sig .tc) (h : r ∉ wroteC) :
    stepC X (no_index (Proc.devRef .tc r)) = X (Proc.devRef .tc r) :=
  after_of_writes_sub _ X (forall_writes_sub_of_map rfl) h

/-- The third corner: what the stretch leaves. -/
def stepD (X : Contents F) : Contents F :=
  after (hostOps0_13 ++ (hostOps0_14 ++ (hostOps0_15 ++ (hostOps0_16)))) X

/-- What the stretch writes. -/
abbrev wroteD : List (Ref sig .tc) := [
  main_call6_v0, main_call6_v1, main_call6_v2, main_call6_v3, main_call6_v4, main_v107, main_v108, main_c_32,
  main_c_33, main_call7_v0, main_call7_v1, main_call7_v2, main_call7_v3, main_call7_v4, main_v109, main_v110,
  main_c_34, main_v111, main_v112, main_v113, main_v114, main_v115, main_v116, main_cst_35, main_v117,
  main_v118, main_cst_36, main_v119, main_v120, main_v121, main_cst_37, main_v122, main_v123, main_v124,
  main_cst_38, main_v125, main_v126, main_v127, main_v128, main_c_39, main_c_40]

/-- The stretch leaves every other buffer alone. -/
theorem keepD (X : Contents F) (r : Ref sig .tc) (h : r ∉ wroteD) :
    stepD X (no_index (Proc.devRef .tc r)) = X (Proc.devRef .tc r) :=
  after_of_writes_sub _ X (forall_writes_sub_of_map rfl) h

/-- The fourth corner and the sums: what the stretch leaves. -/
def stepE (X : Contents F) : Contents F :=
  after (hostOps0_17 ++ (hostOps0_18 ++ (hostOps0_19 ++ (hostOps0_20)))) X

/-- What the stretch writes. -/
abbrev wroteE : List (Ref sig .tc) := [
  main_call8_v0, main_call8_v1, main_call8_v2, main_call8_v3, main_call8_v4, main_v129, main_v130, main_c_41,
  main_c_42, main_call9_v0, main_call9_v1, main_call9_v2, main_call9_v3, main_call9_v4, main_v131, main_v132,
  main_c_43, main_v133, main_v134, main_v135, main_v136, main_v137, main_v138, main_v139, main_v140,
  main_v141, main_v142, main_v143, main_v144, main_v145, main_v146, main_v147, main_v148, main_v149,
  main_v150, main_v151, main_v152, main_v153, main_v154, main_c_44, main_v155, main_v156, main_c_45,
  main_v157, main_v158, main_v159, main_v160, main_v161, main_v162, main_v163, main_v164, main_v165,
  main_cst_46, main_v166, main_v167, main_v168]

/-- The stretch leaves every other buffer alone. -/
theorem keepE (X : Contents F) (r : Ref sig .tc) (h : r ∉ wroteE) :
    stepE X (no_index (Proc.devRef .tc r)) = X (Proc.devRef .tc r) :=
  after_of_writes_sub _ X (forall_writes_sub_of_map rfl) h

/-! ## What each stretch computes -/

/-- The nine tap numbers. -/
abbrev taps : IVec S9 32 := iotaInDim S9 32 0

/-- The width of the window of taps. -/
abbrev three : IVec S_ 32 := constantI S_ 32 3#32

/-- A coordinate held between two bounds, as a word. -/
def heldBy (lo hi : IVec S_ 32) (y : FVec F S9x224x224 .f32) : IVec S9x224x224 32 := fptosi 32 (clampTo lo hi y)

/-- A coordinate held between the image's first and last line, as a word. -/
abbrev held (y : FVec F S9x224x224 .f32) : IVec S9x224x224 32 := heldBy (constantI S_ 32 0#32) (constantI S_ 32 223#32) y

/-- The pixel table. -/
theorem atA_v1 (X : Contents F) : stepA X (no_index (Proc.devRef .tc main_v1)) = pixelRows (X (Proc.devRef .tc main_arg0)) := by
  unfold stepA; simp only [after_append]; after_reads_simp <;> rfl

/-- The tap weights. -/
theorem atA_v3 (X : Contents F) : stepA X (no_index (Proc.devRef .tc main_v3)) = tapWeights (X (Proc.devRef .tc main_arg2)) := by
  unfold stepA; simp only [after_append]; after_reads_simp <;> rfl

/-- The offset pairs. -/
theorem atA_v4 (X : Contents F) : stepA X (no_index (Proc.devRef .tc main_v4)) = offsetPairs (X (Proc.devRef .tc main_arg1)) := by
  unfold stepA; simp only [after_append]; after_reads_simp <;> rfl

/-- The taps' row numbers. -/
theorem atA_v8 (X : Contents F) : stepA X (no_index (Proc.devRef .tc main_v8)) = tapColumn (divDown taps three) := by
  unfold stepA; simp only [after_append]; after_reads_simp <;> rfl

/-- The taps' column numbers. -/
theorem atA_v10 (X : Contents F) : stepA X (no_index (Proc.devRef .tc main_v10)) = modDown taps three := by
  unfold stepA; simp only [after_append]; after_reads_simp <;> rfl

/-- The sampled row, rounded down. -/
theorem atB_v35 (X : Contents F) : stepB X (no_index (Proc.devRef .tc main_v35)) = Host.floor (rowPos (X (Proc.devRef .tc main_v8)) (X (Proc.devRef .tc main_v4))) := by
  unfold stepB; simp only [after_append]; after_reads_simp <;> rfl

/-- The sampled column, rounded down. -/
theorem atB_v36 (X : Contents F) : stepB X (no_index (Proc.devRef .tc main_v36)) = Host.floor (colPos (tapColumn (X (Proc.devRef .tc main_v10))) (X (Proc.devRef .tc main_v4))) := by
  unfold stepB; simp only [after_append]; after_reads_simp <;> rfl

/-- The vertical fraction. -/
theorem atB_v37 (X : Contents F) : stepB X (no_index (Proc.devRef .tc main_v37)) = subf (rowPos (X (Proc.devRef .tc main_v8)) (X (Proc.devRef .tc main_v4))) (Host.floor (rowPos (X (Proc.devRef .tc main_v8)) (X (Proc.devRef .tc main_v4)))) := by
  unfold stepB; simp only [after_append]; after_reads_simp <;> rfl

/-- The horizontal fraction. -/
theorem atB_v38 (X : Contents F) : stepB X (no_index (Proc.devRef .tc main_v38)) = subf (colPos (tapColumn (X (Proc.devRef .tc main_v10))) (X (Proc.devRef .tc main_v4))) (Host.floor (colPos (tapColumn (X (Proc.devRef .tc main_v10))) (X (Proc.devRef .tc main_v4)))) := by
  unfold stepB; simp only [after_append]; after_reads_simp <;> rfl

/-- The upper row's weight. -/
theorem atB_v40 (X : Contents F) : stepB X (no_index (Proc.devRef .tc main_v40)) = oneMinus (subf (rowPos (X (Proc.devRef .tc main_v8)) (X (Proc.devRef .tc main_v4))) (Host.floor (rowPos (X (Proc.devRef .tc main_v8)) (X (Proc.devRef .tc main_v4))))) := by
  unfold stepB; simp only [after_append]; after_reads_simp <;> rfl

/-- The lower row. -/
theorem atB_v42 (X : Contents F) : stepB X (no_index (Proc.devRef .tc main_v42)) = plusOne (Host.floor (rowPos (X (Proc.devRef .tc main_v8)) (X (Proc.devRef .tc main_v4)))) := by
  unfold stepB; simp only [after_append]; after_reads_simp <;> rfl

/-- The right column. -/
theorem atB_v46 (X : Contents F) : stepB X (no_index (Proc.devRef .tc main_v46)) = plusOne (Host.floor (colPos (tapColumn (X (Proc.devRef .tc main_v10))) (X (Proc.devRef .tc main_v4)))) := by
  unfold stepB; simp only [after_append]; after_reads_simp <;> rfl

/-- The first corner's pixel number. -/
theorem atB_v65 (X : Contents F) : stepB X (no_index (Proc.devRef .tc main_v65)) =
    pixelOf (held (Host.floor (rowPos (X (Proc.devRef .tc main_v8)) (X (Proc.devRef .tc main_v4))))) (held (Host.floor (colPos (tapColumn (X (Proc.devRef .tc main_v10))) (X (Proc.devRef .tc main_v4))))) := by
  unfold stepB; simp only [after_append]; after_reads_simp <;> rfl

/-- The first corner's coefficient. -/
theorem atB_v68 (X : Contents F) : stepB X (no_index (Proc.devRef .tc main_v68)) =
    coefOf (X (Proc.devRef .tc main_v3)) (oneMinus (subf (rowPos (X (Proc.devRef .tc main_v8)) (X (Proc.devRef .tc main_v4))) (Host.floor (rowPos (X (Proc.devRef .tc main_v8)) (X (Proc.devRef .tc main_v4))))))
      (oneMinus (subf (colPos (tapColumn (X (Proc.devRef .tc main_v10))) (X (Proc.devRef .tc main_v4))) (Host.floor (colPos (tapColumn (X (Proc.devRef .tc main_v10))) (X (Proc.devRef .tc main_v4)))))) (inside (Host.floor (rowPos (X (Proc.devRef .tc main_v8)) (X (Proc.devRef .tc main_v4)))) (Host.floor (colPos (tapColumn (X (Proc.devRef .tc main_v10))) (X (Proc.devRef .tc main_v4))))) := by
  unfold stepB; simp only [after_append]; after_reads_simp <;> rfl

/-- The second corner's in-image flag. -/
theorem atB_v80 (X : Contents F) : stepB X (no_index (Proc.devRef .tc main_v80)) = inside (Host.floor (rowPos (X (Proc.devRef .tc main_v8)) (X (Proc.devRef .tc main_v4)))) (plusOne (Host.floor (colPos (tapColumn (X (Proc.devRef .tc main_v10))) (X (Proc.devRef .tc main_v4))))) := by
  unfold stepB; simp only [after_append]; after_reads_simp <;> rfl

/-- A lower bound. -/
theorem atB_c_19 (X : Contents F) : stepB X (no_index (Proc.devRef .tc main_c_19)) = constantI S_ 32 0#32 := by
  unfold stepB; simp only [after_append]; after_reads_simp <;> rfl

/-- An upper bound. -/
theorem atB_c_20 (X : Contents F) : stepB X (no_index (Proc.devRef .tc main_c_20)) = constantI S_ 32 223#32 := by
  unfold stepB; simp only [after_append]; after_reads_simp <;> rfl

/-- The second corner's pixel number. -/
theorem atC_v87 (X : Contents F) : stepC X (no_index (Proc.devRef .tc main_v87)) =
    pixelOf (heldBy (X (Proc.devRef .tc main_c_19)) (X (Proc.devRef .tc main_c_20)) (X (Proc.devRef .tc main_v35))) (held (X (Proc.devRef .tc main_v46))) := by
  unfold stepC; simp only [after_append]; after_reads_simp <;> rfl

/-- The second corner's coefficient. -/
theorem atC_v90 (X : Contents F) : stepC X (no_index (Proc.devRef .tc main_v90)) = coefOf (X (Proc.devRef .tc main_v3)) (X (Proc.devRef .tc main_v40)) (X (Proc.devRef .tc main_v38)) (X (Proc.devRef .tc main_v80)) := by
  unfold stepC; simp only [after_append]; after_reads_simp <;> rfl

/-- The left column's weight. -/
theorem atC_v92 (X : Contents F) : stepC X (no_index (Proc.devRef .tc main_v92)) = oneMinus (X (Proc.devRef .tc main_v38)) := by
  unfold stepC; simp only [after_append]; after_reads_simp <;> rfl

/-- The right column again. -/
theorem atC_v94 (X : Contents F) : stepC X (no_index (Proc.devRef .tc main_v94)) = plusOne (X (Proc.devRef .tc main_v36)) := by
  unfold stepC; simp only [after_append]; after_reads_simp <;> rfl

/-- The third corner's in-image flag. -/
theorem atC_v106 (X : Contents F) : stepC X (no_index (Proc.devRef .tc main_v106)) = inside (X (Proc.devRef .tc main_v42)) (X (Proc.devRef .tc main_v36)) := by
  unfold stepC; simp only [after_append]; after_reads_simp <;> rfl

/-- A lower bound. -/
theorem atC_c_30 (X : Contents F) : stepC X (no_index (Proc.devRef .tc main_c_30)) = constantI S_ 32 0#32 := by
  unfold stepC; simp only [after_append]; after_reads_simp <;> rfl

/-- An upper bound. -/
theorem atC_c_31 (X : Contents F) : stepC X (no_index (Proc.devRef .tc main_c_31)) = constantI S_ 32 223#32 := by
  unfold stepC; simp only [after_append]; after_reads_simp <;> rfl

/-- The third corner's pixel number. -/
theorem atD_v113 (X : Contents F) : stepD X (no_index (Proc.devRef .tc main_v113)) =
    pixelOf (heldBy (X (Proc.devRef .tc main_c_30)) (X (Proc.devRef .tc main_c_31)) (X (Proc.devRef .tc main_v42))) (held (X (Proc.devRef .tc main_v36))) := by
  unfold stepD; simp only [after_append]; after_reads_simp <;> rfl

/-- The third corner's coefficient. -/
theorem atD_v116 (X : Contents F) : stepD X (no_index (Proc.devRef .tc main_v116)) = coefOf (X (Proc.devRef .tc main_v3)) (X (Proc.devRef .tc main_v37)) (X (Proc.devRef .tc main_v92)) (X (Proc.devRef .tc main_v106)) := by
  unfold stepD; simp only [after_append]; after_reads_simp <;> rfl

/-- The fourth corner's in-image flag. -/
theorem atD_v128 (X : Contents F) : stepD X (no_index (Proc.devRef .tc main_v128)) = inside (X (Proc.devRef .tc main_v42)) (X (Proc.devRef .tc main_v94)) := by
  unfold stepD; simp only [after_append]; after_reads_simp <;> rfl

/-- A lower bound. -/
theorem atD_c_39 (X : Contents F) : stepD X (no_index (Proc.devRef .tc main_c_39)) = constantI S_ 32 0#32 := by
  unfold stepD; simp only [after_append]; after_reads_simp <;> rfl

/-- An upper bound. -/
theorem atD_c_40 (X : Contents F) : stepD X (no_index (Proc.devRef .tc main_c_40)) = constantI S_ 32 223#32 := by
  unfold stepD; simp only [after_append]; after_reads_simp <;> rfl

/-- The result image, before the kernel copies it. -/
theorem atE_v168 (X : Contents F) : stepE X (no_index (Proc.devRef .tc main_v168)) =
    summed (products (X (Proc.devRef .tc main_v1))
      (listed (four (e := .i32) (X (Proc.devRef .tc main_v65)) (X (Proc.devRef .tc main_v87)) (X (Proc.devRef .tc main_v113))
        (pixelOf (heldBy (X (Proc.devRef .tc main_c_39)) (X (Proc.devRef .tc main_c_40)) (X (Proc.devRef .tc main_v42))) (held (X (Proc.devRef .tc main_v94))))))
      (listed (four (e := .f32) (X (Proc.devRef .tc main_v68)) (X (Proc.devRef .tc main_v90)) (X (Proc.devRef .tc main_v116))
        (coefOf (X (Proc.devRef .tc main_v3)) (X (Proc.devRef .tc main_v37)) (X (Proc.devRef .tc main_v38)) (X (Proc.devRef .tc main_v128)))))) := by
  unfold stepE; simp only [after_append]; after_reads_simp <;> rfl

end Cert.KernelIdeal.HostRun

end
-- ==== Proof.HostImage.lean ====
module

public import proofs.«01_k».proof.Proof.HostRun
public import proofs.«01_k».proof.Proof.Gen.KernelIdeal.Frame

/-! The kernel's whole host computation as one function of its three arguments. -/

@[expose] public section

set_option maxRecDepth 8192
set_option maxHeartbeats 2000000

noncomputable section

namespace Cert.KernelIdeal.HostRun

open Cert.KernelIdeal Cert.KernelIdeal.Gen Cert.KernelIdeal.Stages Idealize.ShloMosaic Idealize.ShloMosaic.TcCoe
open Idealize.ShloMosaic.StableHlo

variable {F : FTy → Type} [FloatOps F]

/-! ## The whole of it -/

/-- The sampled rows. -/
def rows (a1 : FVec F S1x18x224x224 .f32) : FVec F S9x224x224 .f32 :=
  rowPos (tapColumn (divDown taps three)) (offsetPairs a1)

/-- The sampled columns. -/
def cols (a1 : FVec F S1x18x224x224 .f32) : FVec F S9x224x224 .f32 :=
  colPos (tapColumn (modDown taps three)) (offsetPairs a1)

/-- The pixel numbers of every tap's four corners. -/
def corners (y x : FVec F S9x224x224 .f32) : IVec S1806336 32 :=
  listed (four (F := F) (e := .i32) (pixelOf (held y) (held x)) (pixelOf (held y) (held (plusOne x)))
    (pixelOf (held (plusOne y)) (held x)) (pixelOf (held (plusOne y)) (held (plusOne x))))

/-- The coefficients of every tap's four corners, from the weights, the lines and the fractions. -/
def coefs (w : FVec F S9x224x224 .f32) (y x fy fx : FVec F S9x224x224 .f32) : FVec F S1806336 .f32 :=
  listed (four (F := F) (e := .f32) (coefOf w (oneMinus fy) (oneMinus fx) (inside y x))
    (coefOf w (oneMinus fy) fx (inside y (plusOne x)))
    (coefOf w fy (oneMinus fx) (inside (plusOne y) x))
    (coefOf w fy fx (inside (plusOne y) (plusOne x))))

/-- The kernel's result image as a function of its three arguments. -/
def image (a0 : FVec F S1x96x224x224 .f32) (a1 : FVec F S1x18x224x224 .f32) (a2 : FVec F S1x9x224x224 .f32) :
    FVec F S1x96x224x224 .f32 :=
  summed (products (pixelRows a0) (corners (Host.floor (rows a1)) (Host.floor (cols a1)))
    (coefs (tapWeights a2) (Host.floor (rows a1)) (Host.floor (cols a1))
      (subf (rows a1) (Host.floor (rows a1))) (subf (cols a1) (Host.floor (cols a1)))))

/-- The stretches one after another. -/
def allSteps (X : Contents F) : Contents F :=
  stepE (stepD (stepC (stepB (stepA X))))

/-- The stretches together leave the result image of the three arguments. -/
theorem allSteps_v168 (X : Contents F) :
    allSteps X (Proc.devRef .tc main_v168) =
      image (X (Proc.devRef .tc main_arg0)) (X (Proc.devRef .tc main_arg1)) (X (Proc.devRef .tc main_arg2)) := by
  unfold allSteps
  simp (disch := decide) only [atA_v1, atA_v3, atA_v4, atA_v8, atA_v10, atB_v35, atB_v36, atB_v37, atB_v38, atB_v40, atB_v42, atB_v46, atB_v65, atB_v68, atB_v80, atB_c_19, atB_c_20, atC_v87, atC_v90, atC_v92, atC_v94, atC_v106, atC_c_30, atC_c_31, atD_v113, atD_v116, atD_v128, atD_c_39, atD_c_40, atE_v168, keepA, keepB, keepC, keepD, keepE]
  rfl

/-- What the kernel's pass is launched on. -/
theorem launched (m : (ℓ : Loc nD τ sig) → Buf (Elt F) ℓ) (c : Dev nD) :
    Gen.V m c main_v168 =
      image (m (c, Proc.devRef .tc main_arg0)) (m (c, Proc.devRef .tc main_arg1)) (m (c, Proc.devRef .tc main_arg2)) := by
  refine Eq.trans ?_ (allSteps_v168 fun b => m (c, b))
  unfold Gen.V allSteps stepA stepB stepC stepD stepE
  simp only [List.flatten_cons, List.flatten_nil, List.append_nil, StableHlo.after_append]

end Cert.KernelIdeal.HostRun

end
-- ==== Proof.KernelRun.lean ====
module

public import proofs.«01_k».proof.Proof.HostImage
public import proofs.«01_k».proof.Proof.Gen.KernelIdeal.Value

/-! The kernel's run: its one pass copies the image the host computed into the result array. -/

@[expose] public section

noncomputable section

namespace Cert.KernelIdeal.KernelRun

open Cert.KernelIdeal Cert.KernelIdeal.Gen Cert.KernelIdeal.HostRun Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

/-- The pass stores the block it loaded. -/
theorem copied (x : Vec F S1x96x224x224 .f32) : out0_1 x = x := by
  have zeros : (![0, 0, 0, 0] : Fin 4 → Nat) = fun _ => 0 := by decide
  unfold out0_1
  rw [View.ld_unit_zero zeros, View.canon_unit_zero zeros]
  unfold k0_pay1
  exact shapeCast_self x _

/-- What the pass writes back is its operand, seen through the result's window. -/
theorem written (c : Dev nD) (t : Fin cfg0.N) :
    (dats m 0 c).flushed 1 t = ((cfg0.win 1).blk t).view.read (Elt F) (V m c main_v168) := by
  rw [Value.flushed1, copied]
  rfl

/-- The one block is the whole array. -/
theorem covers (i : S1x96x224x224.Idx) :
    ∃ t : Fin cfg0.N, (cfg0.win 1).flush t = true ∧ i ∈ ((cfg0.win 1).blk t).view.set := by
  refine ⟨t0_0, flush0_1 _, ?_⟩
  show i ∈ ((View.whole main_v169).slice (win0_1.rect t0_0)).set
  rw [View.set_slice_whole, Rect.mem_set_unit]
  have e : ∀ a, win0_1.index t0_0 a * win0_1.size a = 0 ∧ win0_1.xsize (grid0.coords t0_0) a = S1x96x224x224.size a := by
    decide +kernel
  intro a
  show win0_1.index t0_0 a * win0_1.size a ≤ (i a : Nat) ∧ (i a : Nat) < win0_1.index t0_0 a * win0_1.size a + win0_1.xsize (grid0.coords t0_0) a
  rw [(e a).1, (e a).2, Nat.zero_add]
  exact ⟨Nat.zero_le _, (i a).isLt⟩

/-- The kernel's run: the result array ends as `image` of the three arguments, and the arguments end as they began. -/
theorem run : θ_run defs (onTc (τ := τ) (main (F := F))) ⟨m, fun _ => 0, ρ⟩ fun r => ∀ c : Dev nD,
      r.2.mem ((c.tc : Thread nD τ).loc main_v169) = image (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans
    (((dats m 0 c).arrAt_eq_of_cover 1 (V m c main_v168) (fun t _ => written m c t) covers).trans (launched m c)), (h c).2⟩)
    (Value.run_blocks m ρ)

end Cert.KernelIdeal.KernelRun

end
-- ==== Proof.Scalars.lean ====
module

public import Idealize.ShloMosaic.PureOps.Ideal
public import Idealize.ShloMosaic.Lib.IdealHost
public import Idealize.ShloMosaic.Lib.Affine

/-! The sampling arithmetic at one point: a coordinate's two lines, the line number it is read at, the flag that says
whether a corner lies in the image, and why the two programs' orders of multiplication agree. -/

@[expose] public section

noncomputable section

namespace Cert.Scalars

open Idealize.ShloMosaic

/-- The numbers the programs compute with: extended reals. -/
abbrev R := Ideal .f32

/-- The constant one. -/
def one : R := FloatOps.ofBits .f32 0x3F800000#32
/-- The constant zero. -/
def zero : R := FloatOps.ofBits .f32 0x00000000#32
/-- The last line, 223. -/
def last : R := FloatOps.ofBits .f32 0x435F0000#32

/-- The line before a coordinate. -/
def near (y : R) : R := FloatOps.hostUnary .floor y
/-- The line after the one before a coordinate. -/
def next (y : R) : R := FloatOps.addf (near y) one
/-- The coordinate's distance from the line before it: the weight of the line after. -/
def frac (y : R) : R := FloatOps.subf y (near y)
/-- The weight of the line before. -/
def rest (y : R) : R := FloatOps.subf one (frac y)

/-- The number of the line a corner is read at: its coordinate held in the image. -/
def line (y : R) : BitVec 32 :=
  FloatOps.fptosi 32 (FloatOps.minimumf (FloatOps.sitofp .f32 223#32) (FloatOps.maximumf (FloatOps.sitofp .f32 0#32) y))

/-- One where the corner lies in the image, zero elsewhere. -/
def flag (y x : R) : R :=
  FloatOps.uitofp .f32 (IntOp.andi (IntOp.andi (IntOp.andi (FloatOps.cmpf .oge y zero) (FloatOps.cmpf .ole y last))
    (FloatOps.cmpf .oge x zero)) (FloatOps.cmpf .ole x last))

/-- The value is a real number. -/
def IsReal (x : R) : Prop := ∃ r : ℝ, x = ((r : ℝ) : EReal)

/-! ## Constants -/

/-- The constant one is the number 1. -/
theorem one_eq : one = (1 : EReal) := by simp [one]
/-- The constant zero is the number 0. -/
theorem zero_eq : zero = (0 : EReal) := by simp [zero, Ideal.ofBits_zero_f32]
/-- The last line's constant is the number 223. -/
theorem last_eq : last = ((223 : ℝ) : EReal) := by
  simp [last, Ideal.ofBits, Ideal.ieee, -EReal.coe_mul]; norm_num

/-! ## Line numbers -/

/-- A held coordinate is a real between 0 and 223. -/
theorem held_real (y : EReal) : ∃ r : ℝ, 0 ≤ r ∧ r ≤ 223 ∧ min ((223 : ℝ) : EReal) (max ((0 : ℝ) : EReal) y) = (r : EReal) := by
  induction y using EReal.rec with
  | bot => exact ⟨0, le_refl _, by norm_num, by rw [max_eq_left bot_le, min_eq_right (by exact_mod_cast (by norm_num : (0 : ℝ) ≤ 223))]⟩
  | top => exact ⟨223, by norm_num, le_refl _, by rw [max_eq_right le_top, min_eq_left le_top]⟩
  | coe r =>
    refine ⟨min 223 (max 0 r), le_min (by norm_num) (le_max_left _ _), min_le_left _ _, ?_⟩
    rw [EReal.coe_strictMono.monotone.map_min, EReal.coe_strictMono.monotone.map_max]

/-- A line number is the natural number of some line of the image. -/
theorem line_eq (y : R) : ∃ n : ℕ, n < 224 ∧ line y = BitVec.ofNat 32 n := by
  obtain ⟨r, h0, h1, h⟩ := held_real y
  have e : line y = Ideal.fptosi 32 (min ((223 : ℝ) : EReal) (max ((0 : ℝ) : EReal) y)) := by
    show Ideal.fptosi 32 (min (((223#32 : BitVec 32).toInt : ℝ) : EReal) (max (((0#32 : BitVec 32).toInt : ℝ) : EReal) y)) = _
    rw [show (223#32 : BitVec 32).toInt = 223 by decide, show (0#32 : BitVec 32).toInt = 0 by decide]
    norm_num
  have f0 : (0 : ℤ) ≤ ⌊r⌋ := Int.floor_nonneg.2 h0
  have f1 : ⌊r⌋ < 224 := Int.floor_lt.2 (by push_cast; linarith)
  refine ⟨⌊r⌋.toNat, by omega, ?_⟩
  rw [e, h, Ideal.fptosi, Ideal.toIntClamped_coe, if_pos h0, max_eq_right, min_eq_right, ← BitVec.ofInt_natCast,
    Int.toNat_of_nonneg f0]
  · norm_num; omega
  · rw [min_eq_right]
    · norm_num; omega
    · norm_num; omega

/-- A line number lies in the image. -/
theorem line_lt (y : R) : (line y).toNat < 224 := by
  obtain ⟨n, hn, e⟩ := line_eq y
  rw [e, BitVec.toNat_ofNat]
  omega

/-! ## Flags -/

/-- A comparison, decided. -/
theorem cmp_one (p : Bool) : BitVec.ofBool p = 1#1 ↔ p = true := by cases p <;> decide

/-- A value between two reals is a real. -/
theorem isReal_between {y : EReal} {a b : ℝ} (h0 : ((a : ℝ) : EReal) ≤ y) (h1 : y ≤ ((b : ℝ) : EReal)) : IsReal y := by
  induction y using EReal.rec with
  | bot => exact absurd (le_bot_iff.1 h0) (EReal.coe_ne_bot a)
  | top => exact absurd (top_le_iff.1 h1) (EReal.coe_ne_top b)
  | coe r => exact ⟨r, rfl⟩

/-- A flag is zero, or it is one and both coordinates are reals. -/
theorem flag_cases (y x : R) : flag y x = (0 : EReal) ∨ (flag y x = (1 : EReal) ∧ IsReal y ∧ IsReal x) := by
  have conv (b : BitVec 1) : (FloatOps.uitofp .f32 b : R) = (((b.toNat : ℝ)) : EReal) := rfl
  unfold flag
  rcases BitVec.eq_zero_or_eq_one (IntOp.andi (IntOp.andi (IntOp.andi (FloatOps.cmpf .oge y zero) (FloatOps.cmpf .ole y last))
    (FloatOps.cmpf .oge x zero)) (FloatOps.cmpf .ole x last)) with h | h
  · left; rw [conv, h]; simp
  · right
    refine ⟨by rw [conv, h]; simp, ?_⟩
    obtain ⟨h, hx1⟩ := IntOp.andi_eq_one.1 h
    obtain ⟨h, hx0⟩ := IntOp.andi_eq_one.1 h
    obtain ⟨hy0, hy1⟩ := IntOp.andi_eq_one.1 h
    rw [zero_eq] at hx0 hy0
    rw [last_eq] at hx1 hy1
    have le (a b : EReal) (e : Ideal.cmp .ole a b = 1#1) : a ≤ b := of_decide_eq_true ((cmp_one _).1 e)
    have ge (a b : EReal) (e : Ideal.cmp .oge a b = 1#1) : b ≤ a := of_decide_eq_true ((cmp_one _).1 e)
    exact ⟨isReal_between (a := 0) (ge _ _ hy0) (le _ _ hy1), isReal_between (a := 0) (ge _ _ hx0) (le _ _ hx1)⟩

/-! ## Weights -/

/-- A coordinate whose line is a real is a real. -/
theorem isReal_of_near {y : R} (h : IsReal (near y)) : IsReal y := by
  obtain ⟨r, h⟩ := h
  have h : Ideal.liftRound Int.floor y = ((r : ℝ) : EReal) := h
  induction y using EReal.rec with
  | bot => rw [Ideal.liftRound_bot] at h; exact absurd h.symm (EReal.coe_ne_bot r)
  | top => rw [Ideal.liftRound_top] at h; exact absurd h.symm (EReal.coe_ne_top r)
  | coe s => exact ⟨s, rfl⟩

/-- A coordinate whose next line is a real is a real. -/
theorem isReal_of_next {y : R} (h : IsReal (next y)) : IsReal y := by
  refine isReal_of_near ?_
  obtain ⟨r, h⟩ := h
  have h : (near y : EReal) + one = ((r : ℝ) : EReal) := h
  rw [one_eq] at h
  generalize near y = z at h ⊢
  induction z using EReal.rec with
  | bot => rw [EReal.bot_add] at h; exact absurd h.symm (EReal.coe_ne_bot r)
  | top => exact absurd h.symm (by rw [show (1 : EReal) = ((1 : ℝ) : EReal) from rfl, EReal.top_add_coe]; exact EReal.coe_ne_top r)
  | coe s => exact ⟨s, rfl⟩

/-- A real coordinate's weights are reals. -/
theorem isReal_frac {y : R} (h : IsReal y) : IsReal (frac y) := by
  obtain ⟨r, rfl⟩ := h
  exact ⟨r - (⌊r⌋ : ℝ), (EReal.coe_sub _ _).symm⟩

/-- The weight of the line before a real coordinate is a real. -/
theorem isReal_rest {y : R} (h : IsReal y) : IsReal (rest y) := by
  obtain ⟨r, e⟩ := isReal_frac h
  refine ⟨1 - r, ?_⟩
  show (one : EReal) - frac y = _
  rw [one_eq, e]; exact (EReal.coe_sub 1 r).symm

/-! ## One corner and one tap -/

/-- A corner's contribution as the reference multiplies it is a real, and times the tap weight it is the kernel's. -/
theorem corner {X w m wy wx : EReal} (hX : IsReal X) (hw : IsReal w) (h : m = 0 ∨ (m = 1 ∧ IsReal wy ∧ IsReal wx)) :
    ∃ r : ℝ, X * m * (wy * wx) = (r : EReal) ∧ X * (w * wy * wx * m) = ((r : ℝ) : EReal) * w := by
  obtain ⟨x, rfl⟩ := hX
  obtain ⟨v, rfl⟩ := hw
  rcases h with rfl | ⟨rfl, ⟨a, rfl⟩, ⟨b, rfl⟩⟩
  · exact ⟨0, by simp, by simp⟩
  · refine ⟨x * (a * b), ?_, ?_⟩
    · rw [mul_one]; norm_cast
    · rw [mul_one]; norm_cast; ring

/-- The channel value at every line and column number. -/
abbrev Plane := BitVec 32 → BitVec 32 → R

/-- A tap as the reference computes it: its four corners' values, each flagged and weighted, added. -/
def tap (at_ : Plane) (y x : R) : R :=
  FloatOps.addf (FloatOps.addf (FloatOps.addf
    (FloatOps.mulf (FloatOps.mulf (at_ (line (near y)) (line (near x))) (flag (near y) (near x))) (FloatOps.mulf (rest y) (rest x)))
    (FloatOps.mulf (FloatOps.mulf (at_ (line (near y)) (line (next x))) (flag (near y) (next x))) (FloatOps.mulf (rest y) (frac x))))
    (FloatOps.mulf (FloatOps.mulf (at_ (line (next y)) (line (near x))) (flag (next y) (near x))) (FloatOps.mulf (frac y) (rest x))))
    (FloatOps.mulf (FloatOps.mulf (at_ (line (next y)) (line (next x))) (flag (next y) (next x))) (FloatOps.mulf (frac y) (frac x)))

/-- A corner's line number along the vertical. -/
def cornerRow (y : R) : Fin 4 → R := ![near y, near y, next y, next y]
/-- A corner's line number along the horizontal. -/
def cornerCol (x : R) : Fin 4 → R := ![near x, next x, near x, next x]
/-- A corner's vertical weight. -/
def rowWeight (y : R) : Fin 4 → R := ![rest y, rest y, frac y, frac y]
/-- A corner's horizontal weight. -/
def colWeight (x : R) : Fin 4 → R := ![rest x, frac x, rest x, frac x]

/-- A corner's contribution as the kernel computes it. -/
def share (at_ : Plane) (w y x : R) (c : Fin 4) : R :=
  FloatOps.mulf (at_ (line (cornerRow y c)) (line (cornerCol x c)))
    (FloatOps.mulf (FloatOps.mulf (FloatOps.mulf w (rowWeight y c)) (colWeight x c)) (flag (cornerRow y c) (cornerCol x c)))

/-- The kernel's four shares of a tap add up to the reference's tap times its weight. -/
theorem shares (at_ : Plane) (w y x : R) (hat : ∀ i j, IsReal (at_ i j)) (hw : IsReal w) :
    (∑ c : Fin 4, share at_ w y x c : EReal) = FloatOps.mulf (tap at_ y x) w := by
  have weights {yc xc wy wx : R} (hy : IsReal yc → IsReal wy) (hx : IsReal xc → IsReal wx) :
      flag yc xc = (0 : EReal) ∨ (flag yc xc = (1 : EReal) ∧ IsReal wy ∧ IsReal wx) :=
    (flag_cases yc xc).imp_right fun h => ⟨h.1, hy h.2.1, hx h.2.2⟩
  have ny {z : R} (h : IsReal (near z)) : IsReal (rest z) := isReal_rest (isReal_of_near h)
  have nx {z : R} (h : IsReal (next z)) : IsReal (frac z) := isReal_frac (isReal_of_next h)
  obtain ⟨r0, e0, f0⟩ := corner (hat (line (near y)) (line (near x))) hw (weights (yc := near y) (xc := near x) ny ny)
  obtain ⟨r1, e1, f1⟩ := corner (hat (line (near y)) (line (next x))) hw (weights (yc := near y) (xc := next x) ny nx)
  obtain ⟨r2, e2, f2⟩ := corner (hat (line (next y)) (line (near x))) hw (weights (yc := next y) (xc := near x) nx ny)
  obtain ⟨r3, e3, f3⟩ := corner (hat (line (next y)) (line (next x))) hw (weights (yc := next y) (xc := next x) nx nx)
  obtain ⟨v, rfl⟩ := hw
  rw [Fin.sum_univ_four]
  unfold tap
  simp only [Ideal.addf_def, Ideal.mulf_def]
  rw [e0, e1, e2, e3]
  refine (congrArg₂ (· + ·) (congrArg₂ (· + ·) (congrArg₂ (· + ·) f0 f1) f2) f3).trans ?_
  norm_cast
  ring

end Cert.Scalars

end
-- ==== Proof.Places.lean ====
module

public import proofs.«01_k».proof.Proof.Scalars
public import Idealize.ShloMosaic.Lib.ValueIdx

/-! Where each tap samples, and one channel of the input as a plane. -/

@[expose] public section

set_option backward.proofsInPublic true

noncomputable section

namespace Cert.Places

open Cert.Scalars
open Idealize.ShloMosaic Idealize.ShloMosaic.ValueIdx

/-- The input image's, the offsets' and the weights' index sets. -/
abbrev Img : Shape := ⟨4, ![1, 96, 224, 224]⟩
/-- The index set of the offsets. -/
abbrev Off : Shape := ⟨4, ![1, 18, 224, 224]⟩
/-- The index set of the tap weights. -/
abbrev Wts : Shape := ⟨4, ![1, 9, 224, 224]⟩

/-- A sampling coordinate: output coordinate less the padding, plus the tap's place, plus the offset. -/
def posn (h t : Nat) (off : R) : R :=
  FloatOps.addf (FloatOps.addf (FloatOps.subf (FloatOps.sitofp .f32 (BitVec.ofNat 32 h)) one) (FloatOps.sitofp .f32 (BitVec.ofNat 32 t))) off

/-- The vertical position tap `k` samples at for output pixel `(h, w)`. -/
def rowAt (o : Off.Idx → R) (k : Fin 9) (h w : Fin 224) : R :=
  posn h.val (k.val / 3) (o (ix4 0 ⟨2 * k.val, by omega⟩ h w))

/-- The horizontal position tap `k` samples at for output pixel `(h, w)`. -/
def colAt (o : Off.Idx → R) (k : Fin 9) (h w : Fin 224) : R :=
  posn w.val (k.val % 3) (o (ix4 0 ⟨2 * k.val + 1, by omega⟩ h w))

/-- Channel `ch` of the image, addressed by a row and a column word. -/
def plane (x : Img.Idx → R) (ch : Fin 96) : Plane := fun i j => x (ix4 0 ch (Fin.ofNat 224 i.toNat) (Fin.ofNat 224 j.toNat))

/-- A number below the height is itself when read in the height. -/
theorem ofNat_val {n : Nat} (h : n < 224) : (Fin.ofNat 224 n) = ⟨n, h⟩ := Fin.ext (Nat.mod_eq_of_lt h)

end Cert.Places

end
-- ==== Proof.KernelRead.lean ====
module

public import proofs.«01_k».proof.Proof.HostImage
public import proofs.«01_k».proof.Proof.Places
public import Idealize.ShloMosaic.Lib.StableHlo.Predicate
public import Idealize.ShloMosaic.Lib.Pipeline.Value
public import Idealize.ShloMosaic.Lib.ValueIdx

/-! The kernel's array functions read at an index. -/

@[expose] public section

set_option backward.proofsInPublic true

noncomputable section

namespace Cert.KernelIdeal.Read

open Cert.KernelIdeal Cert.KernelIdeal.Gen Cert.KernelIdeal.Stages Cert.KernelIdeal.HostRun Cert.Scalars Cert.Places
open Idealize.ShloMosaic Idealize.ShloMosaic.ValueIdx

/-! ## Layout -/

/-- Row `r` of the pixel table holds the channels of pixel `(r / 224, r % 224)`. -/
theorem pixelRows_apply (x : FVec Ideal S1x96x224x224 .f32) (r : Fin 50176) (ch : Fin 96) :
    pixelRows x (ix2 r ch) = x (ix4 0 ch ⟨r.val / 224, by omega⟩ ⟨r.val % 224, by omega⟩) := by
  unfold pixelRows
  rw [transpose_apply [1, 0] _ _ (ix2 r ch) (ix2 ch r) (fun b => match b with | ⟨0, _⟩ => rfl | ⟨1, _⟩ => rfl)]
  refine shapeCast_apply _ _ _ _ ?_
  rw [Shape.rowMajor_val_four, Shape.rowMajor_val_two]
  show ((0 * 96 + ch.val) * 224 + r.val / 224) * 224 + r.val % 224 = ch.val * 50176 + r.val
  omega

/-- The offset of tap `k`, `j` = 0 vertical and 1 horizontal, is channel `2 k + j`. -/
theorem offsetPairs_apply (x : FVec Ideal S1x18x224x224 .f32) (k : Fin 9) (j : Fin 2) (h w : Fin 224) :
    offsetPairs x (ix4 k j h w) = x (ix4 0 ⟨2 * k.val + j.val, by omega⟩ h w) := by
  unfold offsetPairs
  rw [shapeCast_apply _ _ (ix4 k j h w) (ix3 ⟨2 * k.val + j.val, by omega⟩ h w) (by
    rw [Shape.rowMajor_val_three, Shape.rowMajor_val_four]
    show ((2 * k.val + j.val) * 224 + h.val) * 224 + w.val = ((k.val * 2 + j.val) * 224 + h.val) * 224 + w.val
    omega)]
  refine shapeCast_apply _ _ _ _ ?_
  rw [Shape.rowMajor_val_four, Shape.rowMajor_val_three]
  show ((0 * 18 + (2 * k.val + j.val)) * 224 + h.val) * 224 + w.val = ((2 * k.val + j.val) * 224 + h.val) * 224 + w.val
  omega

/-- The weight of tap `k` at a pixel. -/
theorem tapWeights_apply (x : FVec Ideal S1x9x224x224 .f32) (k : Fin 9) (h w : Fin 224) :
    tapWeights x (ix3 k h w) = x (ix4 0 k h w) := by
  refine shapeCast_apply _ _ _ _ ?_
  rw [Shape.rowMajor_val_four, Shape.rowMajor_val_three]
  show ((0 * 9 + k.val) * 224 + h.val) * 224 + w.val = (k.val * 224 + h.val) * 224 + w.val
  omega

/-- The four arrays side by side hold array `c` at position `c`. -/
theorem four_apply {e : EltTy} (a b c d : S9x224x224.Idx → Elt Ideal e) (k : Fin 9) (n : Fin 4) (h w : Fin 224) :
    four a b c d (ix4 k n h w) = (![a, b, c, d] n) (ix3 k h w) := by
  unfold four
  refine (concatenate_ofFn_unit_apply (t := S9x4x224x224) (s₁ := S9x1x224x224) 1 (N := 4)
    (fun n => broadcastInDim S9x1x224x224 ![0, 2, 3] bcast_S9x224x224_S9x1x224x224_0_2_3 (![a, b, c, d] n))
    concatenates_S9x1x224x224_S9x1x224x224_S9x1x224x224_S9x1x224x224_S9x4x224x224_d1 rfl rfl (ix4 k n h w) n rfl (ix4 k 0 h w)
    (fun b hb => match b with | ⟨0, _⟩ => rfl | ⟨1, _⟩ => absurd rfl hb | ⟨2, _⟩ => rfl | ⟨3, _⟩ => rfl)).trans ?_
  exact broadcastInDim_apply _ _ _ _ _ fun a => match a with
    | ⟨0, _⟩ => (if_neg (show ¬(9 = 1) by decide)).symm
    | ⟨1, _⟩ => (if_neg (show ¬(224 = 1) by decide)).symm
    | ⟨2, _⟩ => (if_neg (show ¬(224 = 1) by decide)).symm

/-- Entry `36 p + q` of the list is pixel `p`'s value for tap `q / 4` and corner `q % 4`. -/
theorem listed_apply {α : Type} (x : S9x4x224x224.Idx → α) (p : Fin 50176) (q : Fin 36) :
    listed x (ix1 ⟨p.val * 36 + q.val, by omega⟩)
      = x (ix4 ⟨q.val / 4, by omega⟩ ⟨q.val % 4, by omega⟩ ⟨p.val / 224, by omega⟩ ⟨p.val % 224, by omega⟩) := by
  unfold listed
  rw [shapeCast_apply _ _ _ (ix2 p q) (by
      rw [Shape.rowMajor_val_two, Shape.rowMajor_val_one]
      rfl),
    transpose_apply [1, 0] _ _ (ix2 p q) (ix2 q p) (fun b => match b with | ⟨0, _⟩ => rfl | ⟨1, _⟩ => rfl)]
  refine shapeCast_apply _ _ _ _ ?_
  rw [Shape.rowMajor_val_four, Shape.rowMajor_val_two]
  show ((q.val / 4 * 4 + q.val % 4) * 224 + p.val / 224) * 224 + p.val % 224 = q.val * 50176 + p.val
  omega

/-- A gathered row is the table's row named by the list, held in the table. -/
theorem gathered (r : FVec Ideal S50176x96 .f32) (i : IVec S1806336x1 32) (e : Fin 1806336) (ch : Fin 96) :
    Host.gather gather_S50176x96_S1806336x1_S1806336x96_1_0_n_n_0_1_196 r i (ix2 e ch)
      = r (ix2 ⟨min (i (ix2 e 0)).toInt.toNat 50175, by omega⟩ ch) := by
  unfold Host.gather
  refine congrArg r (funext fun a => Fin.ext ?_)
  match a with
  | ⟨0, _⟩ =>
    show GatherDims.start _ (ix2 e ch) i 0 + GatherDims.batchCoord _ (ix2 e ch) 0 + GatherDims.offCoord _ (ix2 e ch) 0 = _
    rw [GatherDims.batchCoord_eq_zero _ _ _ List.not_mem_nil,
      GatherDims.offCoord_eq_zero _ _ _ (fun h => ((GatherDims.mem_sKept _ _).mp h).1 (List.mem_singleton.mpr rfl)),
      Nat.add_zero]
    unfold GatherDims.start
    rw [dif_pos (show (0 : Fin 2) ∈ gather_S50176x96_S1806336x1_S1806336x96_1_0_n_n_0_1_196.startIndexMap from List.mem_singleton.mpr rfl)]
    refine congrArg (fun b => min (i b).toInt.toNat 50175) (funext fun b => Fin.ext ?_)
    match b with
    | ⟨0, _⟩ => rfl
    | ⟨1, _⟩ => rfl
  | ⟨1, _⟩ =>
    show GatherDims.start _ (ix2 e ch) i 1 + GatherDims.batchCoord _ (ix2 e ch) 1 + GatherDims.offCoord _ (ix2 e ch) 1 = ch.val
    rw [GatherDims.batchCoord_eq_zero _ _ _ List.not_mem_nil]
    unfold GatherDims.start
    rw [dif_neg (show (1 : Fin 2) ∉ gather_S50176x96_S1806336x1_S1806336x96_1_0_n_n_0_1_196.startIndexMap by decide), Nat.zero_add]
    rfl

/-- A product: the gathered row's channel times the coefficient. -/
theorem products_apply (r : FVec Ideal S50176x96 .f32) (i : IVec S1806336 32) (c : FVec Ideal S1806336 .f32)
    (p : Fin 50176) (q : Fin 36) (ch : Fin 96) :
    products r i c (ix3 p q ch) = FloatOps.mulf (Host.gather gather_S50176x96_S1806336x1_S1806336x96_1_0_n_n_0_1_196 r (wrapped i)
      (ix2 ⟨p.val * 36 + q.val, by omega⟩ ch)) (c (ix1 ⟨p.val * 36 + q.val, by omega⟩)) := by
  refine congrArg₂ FloatOps.mulf ?_ ?_
  · refine shapeCast_apply _ _ _ _ ?_
    rw [Shape.rowMajor_val_two, Shape.rowMajor_val_three]
    rfl
  · rw [broadcastInDim_apply _ _ _ (ix3 p q ch) (ix3 p q 0) (fun a => match a with
      | ⟨0, _⟩ => (if_neg (show ¬(50176 = 1) by decide)).symm
      | ⟨1, _⟩ => (if_neg (show ¬(36 = 1) by decide)).symm
      | ⟨2, _⟩ => (if_pos rfl).symm)]
    refine shapeCast_apply _ _ _ _ ?_
    rw [Shape.rowMajor_val_one, Shape.rowMajor_val_three]
    show p.val * 36 + q.val = (p.val * 36 + q.val) * 1 + 0
    omega

/-- The result image at a pixel and channel: the thirty-six products added. -/
theorem summed_apply (p : FVec Ideal S50176x36x96 .f32) (ch : Fin 96) (h w : Fin 224) :
    summed p (ix4 0 ch h w) = (∑ q : Fin 36, p (ix3 ⟨h.val * 224 + w.val, by omega⟩ q ch) : EReal) := by
  unfold summed
  rw [shapeCast_apply _ _ (ix4 0 ch h w) (ix2 ch ⟨h.val * 224 + w.val, by omega⟩) (by
      rw [Shape.rowMajor_val_two, Shape.rowMajor_val_four]
      show ch.val * 50176 + (h.val * 224 + w.val) = ((0 * 96 + ch.val) * 224 + h.val) * 224 + w.val
      omega),
    transpose_apply [1, 0] _ _ (ix2 ch ⟨h.val * 224 + w.val, by omega⟩) (ix2 ⟨h.val * 224 + w.val, by omega⟩ ch)
      (fun b => match b with | ⟨0, _⟩ => rfl | ⟨1, _⟩ => rfl)]
  simp only [Host.reduceAdd, Ideal.hostReduceAdd_def]
  rw [Ideal.hostReduceAdd_single reducesTo_S50176x36x96_S50176x96_d1 (by decide)]
  refine Eq.trans (congrArg₂ (· + ·) Ideal.ofBits_zero_f32 (Finset.sum_congr rfl fun q _ => congrArg p ?_)) (zero_add _)
  exact funext fun a => Fin.ext (by match a with | ⟨0, _⟩ => rfl | ⟨1, _⟩ => rfl | ⟨2, _⟩ => rfl)

/-! ## The list of rows -/

/-- A row number below the table's height is not moved by the wrap of negative numbers. -/
theorem wrapped_apply (i : IVec S1806336 32) (e : Fin 1806336) (h : (i (ix1 e)).toNat < 50176) :
    wrapped i (ix2 e 0) = i (ix1 e) := by
  unfold wrapped
  rw [broadcastInDim_apply _ _ _ (ix2 e 0) (ix1 e) (fun a => match a with
    | ⟨0, _⟩ => (if_neg (show ¬(1806336 = 1) by decide)).symm)]
  show Scalar.select (IntOp.cmpi .slt (i (ix1 e)) 0#32) _ (i (ix1 e)) = _
  rw [eq_zero_of_ne_one fun hc => absurd ((StableHlo.Predicate.slt_iff_toNat (by omega) (by decide)).mp hc) (Nat.not_lt_zero _)]
  rfl

/-- The word a pixel number is computed as. -/
def word (a b : BitVec 32) : BitVec 32 := IntOp.addi (IntOp.muli a 224#32) b

/-- A pixel number does not overflow. -/
theorem word_toNat {a b : BitVec 32} (ha : a.toNat < 224) (hb : b.toNat < 224) :
    (word a b).toNat = a.toNat * 224 + b.toNat := by
  show (a * 224#32 + b).toNat = _
  rw [BitVec.toNat_add, BitVec.toNat_mul]
  show (a.toNat * 224 % 4294967296 + b.toNat) % 4294967296 = _
  omega

/-- The row fetched for a listed pixel number is the plane at that row and column. -/
theorem fetched (x : FVec Ideal S1x96x224x224 .f32) (i : IVec S1806336 32) (e : Fin 1806336) (ch : Fin 96) {a b : BitVec 32}
    (ha : a.toNat < 224) (hb : b.toNat < 224) (hi : i (ix1 e) = word a b) :
    Host.gather gather_S50176x96_S1806336x1_S1806336x96_1_0_n_n_0_1_196 (pixelRows x) (wrapped i) (ix2 e ch) = plane x ch a b := by
  have hn : (i (ix1 e)).toNat = a.toNat * 224 + b.toNat := (congrArg BitVec.toNat hi).trans (word_toNat ha hb)
  have hz : (wrapped i (ix2 e 0)).toInt.toNat = a.toNat * 224 + b.toNat := by
    rw [wrapped_apply i e (by omega), StableHlo.Predicate.toInt_eq_toNat_of_lt (by omega), Int.toNat_natCast, hn]
  rw [gathered, pixelRows_apply]
  unfold plane
  rw [ofNat_val ha, ofNat_val hb]
  have h₁ : min (wrapped i (ix2 e 0)).toInt.toNat 50175 / 224 = a.toNat := by omega
  have h₂ : min (wrapped i (ix2 e 0)).toInt.toNat 50175 % 224 = b.toNat := by omega
  exact congrArg₂ (fun u v => x (ix4 0 ch u v)) (Fin.ext h₁) (Fin.ext h₂)

/-! ## Positions -/

/-- The tap numbers divided by three. -/
theorem divDown_taps (k : Fin 9) : divDown taps three (ix1 k) = BitVec.ofNat 32 (k.val / 3) := by
  revert k
  decide +kernel

/-- The tap numbers' remainders by three. -/
theorem modDown_taps (k : Fin 9) : modDown taps three (ix1 k) = BitVec.ofNat 32 (k.val % 3) := by
  revert k
  decide +kernel

/-- The column of tap numbers as floats. -/
theorem tapColumn_apply (i : IVec S9 32) (k : Fin 9) :
    tapColumn (F := Ideal) i (ix3 k 0 0) = FloatOps.sitofp .f32 (i (ix1 k)) :=
  broadcastInDim_apply _ _ _ (ix3 k 0 0) (ix1 k) fun a => match a with
    | ⟨0, _⟩ => (if_neg (show ¬(9 = 1) by decide)).symm

/-- The vertical positions read at a tap and pixel. -/
theorem rows_apply (o : FVec Ideal S1x18x224x224 .f32) (k : Fin 9) (h w : Fin 224) :
    rows o (ix3 k h w) = rowAt o k h w := by
  unfold rows rowPos
  refine congrArg₂ FloatOps.addf ?_ ?_
  · rw [broadcastInDim_apply _ _ _ (ix3 k h w) (ix3 k h 0) (fun a => match a with
      | ⟨0, _⟩ => (if_neg (show ¬(9 = 1) by decide)).symm
      | ⟨1, _⟩ => (if_neg (show ¬(224 = 1) by decide)).symm
      | ⟨2, _⟩ => (if_pos rfl).symm)]
    refine congrArg₂ FloatOps.addf ?_ ?_
    · rw [broadcastInDim_apply _ _ _ (ix3 k h 0) (ix3 0 h 0) (fun a => match a with
        | ⟨0, _⟩ => (if_pos rfl).symm
        | ⟨1, _⟩ => (if_neg (show ¬(224 = 1) by decide)).symm
        | ⟨2, _⟩ => (if_pos rfl).symm)]
      refine congrArg₂ FloatOps.subf ?_ rfl
      exact broadcastInDim_apply _ _ _ (ix3 0 h 0) (ix1 h) fun a => match a with
        | ⟨0, _⟩ => (if_neg (show ¬(224 = 1) by decide)).symm
    · rw [broadcastInDim_apply _ _ _ (ix3 k h 0) (ix3 k 0 0) (fun a => match a with
        | ⟨0, _⟩ => (if_neg (show ¬(9 = 1) by decide)).symm
        | ⟨1, _⟩ => (if_pos rfl).symm
        | ⟨2, _⟩ => (if_pos rfl).symm), tapColumn_apply, divDown_taps]
  · rw [shapeCast_apply _ _ (ix3 k h w) (ix4 k 0 h w) (by
        rw [Shape.rowMajor_val_four, Shape.rowMajor_val_three]
        show ((k.val * 1 + 0) * 224 + h.val) * 224 + w.val = (k.val * 224 + h.val) * 224 + w.val
        omega),
      extractStridedSlice_apply _ _ _ (ix4 k 0 h w) (ix4 k 0 h w) (fun a => match a with
        | ⟨0, _⟩ => (Nat.zero_add _).symm | ⟨1, _⟩ => rfl | ⟨2, _⟩ => (Nat.zero_add _).symm | ⟨3, _⟩ => (Nat.zero_add _).symm),
      offsetPairs_apply]
    rfl

/-- The horizontal positions read at a tap and pixel. -/
theorem cols_apply (o : FVec Ideal S1x18x224x224 .f32) (k : Fin 9) (h w : Fin 224) :
    cols o (ix3 k h w) = colAt o k h w := by
  unfold cols colPos
  refine congrArg₂ FloatOps.addf ?_ ?_
  · rw [broadcastInDim_apply _ _ _ (ix3 k h w) (ix3 k 0 w) (fun a => match a with
      | ⟨0, _⟩ => (if_neg (show ¬(9 = 1) by decide)).symm
      | ⟨1, _⟩ => (if_pos rfl).symm
      | ⟨2, _⟩ => (if_neg (show ¬(224 = 1) by decide)).symm)]
    refine congrArg₂ FloatOps.addf ?_ ?_
    · rw [broadcastInDim_apply _ _ _ (ix3 k 0 w) (ix3 0 0 w) (fun a => match a with
        | ⟨0, _⟩ => (if_pos rfl).symm
        | ⟨1, _⟩ => (if_pos rfl).symm
        | ⟨2, _⟩ => (if_neg (show ¬(224 = 1) by decide)).symm)]
      refine congrArg₂ FloatOps.subf ?_ rfl
      exact broadcastInDim_apply _ _ _ (ix3 0 0 w) (ix1 w) fun a => match a with
        | ⟨0, _⟩ => (if_neg (show ¬(224 = 1) by decide)).symm
    · rw [broadcastInDim_apply _ _ _ (ix3 k 0 w) (ix3 k 0 0) (fun a => match a with
        | ⟨0, _⟩ => (if_neg (show ¬(9 = 1) by decide)).symm
        | ⟨1, _⟩ => (if_pos rfl).symm
        | ⟨2, _⟩ => (if_pos rfl).symm), tapColumn_apply, modDown_taps]
  · rw [shapeCast_apply _ _ (ix3 k h w) (ix4 k 0 h w) (by
        rw [Shape.rowMajor_val_four, Shape.rowMajor_val_three]
        show ((k.val * 1 + 0) * 224 + h.val) * 224 + w.val = (k.val * 224 + h.val) * 224 + w.val
        omega),
      extractStridedSlice_apply _ _ _ (ix4 k 0 h w) (ix4 k 1 h w) (fun a => match a with
        | ⟨0, _⟩ => (Nat.zero_add _).symm | ⟨1, _⟩ => rfl | ⟨2, _⟩ => (Nat.zero_add _).symm | ⟨3, _⟩ => (Nat.zero_add _).symm),
      offsetPairs_apply]
    rfl

/-! ## Corners -/

/-- The pixel number of a corner. -/
theorem corners_apply (r s : FVec Ideal S9x224x224 .f32) (p : Fin 50176) (q : Fin 36) (k : Fin 9) (c : Fin 4) (h w : Fin 224)
    (hk : q.val / 4 = k.val) (hc : q.val % 4 = c.val) (hh : p.val / 224 = h.val) (hw : p.val % 224 = w.val) :
    corners (Host.floor r) (Host.floor s) (ix1 ⟨p.val * 36 + q.val, by omega⟩)
      = word (line (cornerRow (r (ix3 k h w)) c)) (line (cornerCol (s (ix3 k h w)) c)) := by
  unfold corners
  rw [listed_apply, show (⟨q.val / 4, by omega⟩ : Fin 9) = k from Fin.ext hk, show (⟨q.val % 4, by omega⟩ : Fin 4) = c from Fin.ext hc,
    show (⟨p.val / 224, by omega⟩ : Fin 224) = h from Fin.ext hh, show (⟨p.val % 224, by omega⟩ : Fin 224) = w from Fin.ext hw, four_apply]
  match c with
  | ⟨0, _⟩ => rfl
  | ⟨1, _⟩ => rfl
  | ⟨2, _⟩ => rfl
  | ⟨3, _⟩ => rfl

/-- The coefficient of a corner. -/
theorem coefs_apply (u r s : FVec Ideal S9x224x224 .f32) (p : Fin 50176) (q : Fin 36) (k : Fin 9) (c : Fin 4) (h w : Fin 224)
    (hk : q.val / 4 = k.val) (hc : q.val % 4 = c.val) (hh : p.val / 224 = h.val) (hw : p.val % 224 = w.val) :
    coefs u (Host.floor r) (Host.floor s) (subf r (Host.floor r)) (subf s (Host.floor s)) (ix1 ⟨p.val * 36 + q.val, by omega⟩)
      = FloatOps.mulf (FloatOps.mulf (FloatOps.mulf (u (ix3 k h w)) (rowWeight (r (ix3 k h w)) c)) (colWeight (s (ix3 k h w)) c))
          (flag (cornerRow (r (ix3 k h w)) c) (cornerCol (s (ix3 k h w)) c)) := by
  unfold coefs
  rw [listed_apply, show (⟨q.val / 4, by omega⟩ : Fin 9) = k from Fin.ext hk, show (⟨q.val % 4, by omega⟩ : Fin 4) = c from Fin.ext hc,
    show (⟨p.val / 224, by omega⟩ : Fin 224) = h from Fin.ext hh, show (⟨p.val % 224, by omega⟩ : Fin 224) = w from Fin.ext hw, four_apply]
  match c with
  | ⟨0, _⟩ => rfl
  | ⟨1, _⟩ => rfl
  | ⟨2, _⟩ => rfl
  | ⟨3, _⟩ => rfl

/-! ## The image -/

/-- One of the thirty-six products is one corner's share of one tap. -/
theorem product_share (a0 : FVec Ideal S1x96x224x224 .f32) (a1 : FVec Ideal S1x18x224x224 .f32) (a2 : FVec Ideal S1x9x224x224 .f32)
    (p : Fin 50176) (q : Fin 36) (k : Fin 9) (c : Fin 4) (ch : Fin 96) (h w : Fin 224)
    (hk : q.val / 4 = k.val) (hc : q.val % 4 = c.val) (hh : p.val / 224 = h.val) (hw : p.val % 224 = w.val) :
    products (pixelRows a0) (corners (Host.floor (rows a1)) (Host.floor (cols a1)))
        (coefs (tapWeights a2) (Host.floor (rows a1)) (Host.floor (cols a1)) (subf (rows a1) (Host.floor (rows a1)))
          (subf (cols a1) (Host.floor (cols a1)))) (ix3 p q ch)
      = share (plane a0 ch) (a2 (ix4 0 k h w)) (rowAt a1 k h w) (colAt a1 k h w) c := by
  have hi := corners_apply (rows a1) (cols a1) p q k c h w hk hc hh hw
  have hv := coefs_apply (tapWeights a2) (rows a1) (cols a1) p q k c h w hk hc hh hw
  rw [products_apply, hv, fetched a0 _ _ ch (line_lt _) (line_lt _) hi, rows_apply, cols_apply, tapWeights_apply]
  unfold share
  rfl

/-- The kernel's image at a channel and pixel: the four corners' shares of the nine taps added. -/
theorem image_apply (a0 : FVec Ideal S1x96x224x224 .f32) (a1 : FVec Ideal S1x18x224x224 .f32) (a2 : FVec Ideal S1x9x224x224 .f32)
    (ch : Fin 96) (h w : Fin 224) :
    image a0 a1 a2 (ix4 0 ch h w)
      = (∑ k : Fin 9, ∑ c : Fin 4, share (plane a0 ch) (a2 (ix4 0 k h w)) (rowAt a1 k h w) (colAt a1 k h w) c : EReal) := by
  have e (q : Fin 36) := product_share a0 a1 a2 ⟨h.val * 224 + w.val, by omega⟩ q ⟨q.val / 4, by omega⟩ ⟨q.val % 4, by omega⟩ ch h w rfl rfl
    (by show (h.val * 224 + w.val) / 224 = h.val; omega) (by show (h.val * 224 + w.val) % 224 = w.val; omega)
  unfold image
  rw [summed_apply]
  simp only [e]
  exact (Equiv.sum_comp (finProdFinEquiv (m := 9) (n := 4)).symm (fun e : Fin 9 × Fin 4 =>
    (share (plane a0 ch) (a2 (ix4 0 e.1 h w)) (rowAt a1 e.1 h w) (colAt a1 e.1 h w) e.2 : EReal))).trans (Fintype.sum_prod_type _)

end Cert.KernelIdeal.Read

end
-- ==== Proof.RefRead.lean ====
module

public import proofs.«01_k».proof.Proof.Gen.ReferenceIdeal.Read
public import proofs.«01_k».proof.Proof.Places
public import Idealize.ShloMosaic.Lib.ValueIdxRank6
public import Idealize.ShloMosaic.Lib.StableHlo.Predicate

/-! The reference's stages read at an index. -/

@[expose] public section

set_option backward.proofsInPublic true

noncomputable section

namespace Cert.ReferenceIdeal.Places

open Cert.ReferenceIdeal Cert.ReferenceIdeal.Gen Cert.ReferenceIdeal.Read Cert.Scalars Cert.Places
open Idealize.ShloMosaic Idealize.ShloMosaic.ValueIdx

/-! ## Fetching a corner -/

/-- Line numbers, a negative one counted from the end. -/
def wrap (i : IVec S1x9x224x224 32) : IVec S1x9x224x224 32 :=
  select (cmpi .slt i (broadcastInDim S1x9x224x224 ![] bcast_S_S1x9x224x224 (constantI S_ 32 0#32)))
    (addi i (broadcastInDim S1x9x224x224 ![] bcast_S_S1x9x224x224 (constantI S_ 32 224#32))) i

/-- An array with a last axis of size one. -/
abbrev column (i : IVec S1x9x224x224 32) : IVec S1x9x224x224x1 32 :=
  broadcastInDim S1x9x224x224x1 ![0, 1, 2, 3] bcast_S1x9x224x224_S1x9x224x224x1_0_1_2_3 i

/-- Row and column numbers side by side. -/
def pairUp (y x : IVec S1x9x224x224x1 32) : IVec S1x9x224x224x2 32 :=
  concatenate S1x9x224x224x2 4 [⟨S1x9x224x224x1, y⟩, ⟨S1x9x224x224x1, x⟩] concatenates_S1x9x224x224x1_S1x9x224x224x1_S1x9x224x224x2_d4

/-- The input's channels at the pixels named by row and column numbers. -/
def fetch (x0 : FVec Ideal S1x96x224x224 .f32) (y x : IVec S1x9x224x224 32) : FVec Ideal S1x96x9x224x224 .f32 :=
  Host.gather gather_S1x96x224x224_S1x9x224x224x2_S1x96x9x224x224_1_23_0_0_23_4_19611 x0 (pairUp (column (wrap y)) (column (wrap x)))

/-- Per-tap values repeated over the channels. -/
def spread (x : FVec Ideal S1x9x224x224 .f32) : FVec Ideal S1x96x9x224x224 .f32 :=
  broadcastInDim S1x96x9x224x224 ![0, 1, 2, 3, 4] bcast_S1x1x9x224x224_S1x96x9x224x224_0_1_2_3_4
    (broadcastInDim S1x1x9x224x224 ![0, 2, 3, 4] bcast_S1x9x224x224_S1x1x9x224x224_0_2_3_4 x)

/-- A line number is not moved by the wrap of negative numbers. -/
theorem wrap_apply (i : IVec S1x9x224x224 32) (j : S1x9x224x224.Idx) (h : (i j).toNat < 224) : wrap i j = i j := by
  show Scalar.select (IntOp.cmpi .slt (i j) 0#32) _ (i j) = _
  rw [eq_zero_of_ne_one fun hc => absurd ((StableHlo.Predicate.slt_iff_toNat (by omega) (by decide)).mp hc) (Nat.not_lt_zero _)]
  rfl

/-- The added axis changes nothing. -/
theorem column_apply (i : IVec S1x9x224x224 32) (k : Fin 9) (h w : Fin 224) : column i (ix5 0 k h w 0) = i (ix4 0 k h w) :=
  broadcastInDim_apply _ _ _ (ix5 0 k h w 0) (ix4 0 k h w) fun a => match a with
    | ⟨0, _⟩ => (if_pos rfl).symm
    | ⟨1, _⟩ => (if_neg (show ¬(9 = 1) by decide)).symm
    | ⟨2, _⟩ => (if_neg (show ¬(224 = 1) by decide)).symm
    | ⟨3, _⟩ => (if_neg (show ¬(224 = 1) by decide)).symm

/-- The first of a pair is the row number. -/
theorem pairUp_row (y x : IVec S1x9x224x224x1 32) (k : Fin 9) (h w : Fin 224) :
    pairUp y x (ix5 0 k h w 0) = y (ix5 0 k h w 0) :=
  concatenate_pair_apply_left (t := S1x9x224x224x2) 4 y x concatenates_S1x9x224x224x1_S1x9x224x224x1_S1x9x224x224x2_d4 (ix5 0 k h w 0) rfl (ix5 0 k h w 0) fun b => match b with
    | ⟨0, _⟩ => rfl | ⟨1, _⟩ => rfl | ⟨2, _⟩ => rfl | ⟨3, _⟩ => rfl | ⟨4, _⟩ => rfl

/-- The second of a pair is the column number. -/
theorem pairUp_col (y x : IVec S1x9x224x224x1 32) (k : Fin 9) (h w : Fin 224) :
    pairUp y x (ix5 0 k h w 1) = x (ix5 0 k h w 0) :=
  concatenate_pair_apply_right (t := S1x9x224x224x2) 4 y x concatenates_S1x9x224x224x1_S1x9x224x224x1_S1x9x224x224x2_d4 (ix5 0 k h w 1) rfl rfl (ix5 0 k h w 0) (fun b hb => match b with
    | ⟨0, _⟩ => rfl | ⟨1, _⟩ => rfl | ⟨2, _⟩ => rfl | ⟨3, _⟩ => rfl | ⟨4, _⟩ => absurd rfl hb) rfl

/-- The values repeated over the channels, read at one. -/
theorem spread_apply (x : FVec Ideal S1x9x224x224 .f32) (ch : Fin 96) (k : Fin 9) (h w : Fin 224) :
    spread x (ix5 0 ch k h w) = x (ix4 0 k h w) := by
  unfold spread
  rw [broadcastInDim_apply _ _ _ (ix5 0 ch k h w) (ix5 0 0 k h w) (fun a => match a with
    | ⟨0, _⟩ => (if_pos rfl).symm
    | ⟨1, _⟩ => (if_pos rfl).symm
    | ⟨2, _⟩ => (if_neg (show ¬(9 = 1) by decide)).symm
    | ⟨3, _⟩ => (if_neg (show ¬(224 = 1) by decide)).symm
    | ⟨4, _⟩ => (if_neg (show ¬(224 = 1) by decide)).symm)]
  exact broadcastInDim_apply _ _ _ (ix5 0 0 k h w) (ix4 0 k h w) fun a => match a with
    | ⟨0, _⟩ => (if_pos rfl).symm
    | ⟨1, _⟩ => (if_neg (show ¬(9 = 1) by decide)).symm
    | ⟨2, _⟩ => (if_neg (show ¬(224 = 1) by decide)).symm
    | ⟨3, _⟩ => (if_neg (show ¬(224 = 1) by decide)).symm

/-- A gathered value is the input's at the named row and column, held in the image. -/
theorem gathered (x0 : FVec Ideal S1x96x224x224 .f32) (i : IVec S1x9x224x224x2 32) (ch : Fin 96) (k : Fin 9) (h w : Fin 224) :
    Host.gather gather_S1x96x224x224_S1x9x224x224x2_S1x96x9x224x224_1_23_0_0_23_4_19611 x0 i (ix5 0 ch k h w)
      = x0 (ix4 0 ch ⟨min (i (ix5 0 k h w 0)).toInt.toNat 223, by omega⟩ ⟨min (i (ix5 0 k h w 1)).toInt.toNat 223, by omega⟩) := by
  unfold Host.gather
  refine congrArg x0 (funext fun a => Fin.ext ?_)
  match a with
  | ⟨0, _⟩ => exact Nat.lt_one_iff.mp (Fin.isLt _)
  | ⟨1, _⟩ =>
    show GatherDims.start _ (ix5 0 ch k h w) i 1 + GatherDims.batchCoord _ (ix5 0 ch k h w) 1 + GatherDims.offCoord _ (ix5 0 ch k h w) 1 = ch.val
    rw [GatherDims.batchCoord_eq_zero _ _ _ (by decide)]
    unfold GatherDims.start
    rw [dif_neg (show (1 : Fin 4) ∉ gather_S1x96x224x224_S1x9x224x224x2_S1x96x9x224x224_1_23_0_0_23_4_19611.startIndexMap by decide), Nat.zero_add]
    rfl
  | ⟨2, _⟩ =>
    show GatherDims.start _ (ix5 0 ch k h w) i 2 + GatherDims.batchCoord _ (ix5 0 ch k h w) 2 + GatherDims.offCoord _ (ix5 0 ch k h w) 2 = _
    rw [GatherDims.batchCoord_eq_zero _ _ _ (by decide),
      GatherDims.offCoord_eq_zero _ _ _ (fun h => ((GatherDims.mem_sKept _ _).mp h).1 (by decide)), Nat.add_zero]
    unfold GatherDims.start
    rw [dif_pos (show (2 : Fin 4) ∈ gather_S1x96x224x224_S1x9x224x224x2_S1x96x9x224x224_1_23_0_0_23_4_19611.startIndexMap by decide)]
    refine congrArg (fun b => min (i b).toInt.toNat 223) (funext fun b => Fin.ext ?_)
    match b with
    | ⟨0, _⟩ => rfl
    | ⟨1, _⟩ => rfl
    | ⟨2, _⟩ => rfl
    | ⟨3, _⟩ => rfl
    | ⟨4, _⟩ => rfl
  | ⟨3, _⟩ =>
    show GatherDims.start _ (ix5 0 ch k h w) i 3 + GatherDims.batchCoord _ (ix5 0 ch k h w) 3 + GatherDims.offCoord _ (ix5 0 ch k h w) 3 = _
    rw [GatherDims.batchCoord_eq_zero _ _ _ (by decide),
      GatherDims.offCoord_eq_zero _ _ _ (fun h => ((GatherDims.mem_sKept _ _).mp h).1 (by decide)), Nat.add_zero]
    unfold GatherDims.start
    rw [dif_pos (show (3 : Fin 4) ∈ gather_S1x96x224x224_S1x9x224x224x2_S1x96x9x224x224_1_23_0_0_23_4_19611.startIndexMap by decide)]
    refine congrArg (fun b => min (i b).toInt.toNat 223) (funext fun b => Fin.ext ?_)
    match b with
    | ⟨0, _⟩ => rfl
    | ⟨1, _⟩ => rfl
    | ⟨2, _⟩ => rfl
    | ⟨3, _⟩ => rfl
    | ⟨4, _⟩ => rfl

/-- A fetched corner is the plane at its row and column. -/
theorem fetch_apply (x0 : FVec Ideal S1x96x224x224 .f32) (y x : IVec S1x9x224x224 32) (ch : Fin 96) (k : Fin 9) (h w : Fin 224)
    (hy : (y (ix4 0 k h w)).toNat < 224) (hx : (x (ix4 0 k h w)).toNat < 224) :
    fetch x0 y x (ix5 0 ch k h w) = plane x0 ch (y (ix4 0 k h w)) (x (ix4 0 k h w)) := by
  have e (z : BitVec 32) (hz : z.toNat < 224) : min z.toInt.toNat 223 = z.toNat := by
    rw [StableHlo.Predicate.toInt_eq_toNat_of_lt (by omega), Int.toNat_natCast]
    omega
  unfold fetch plane
  rw [gathered, ofNat_val hy, ofNat_val hx]
  refine congrArg₂ (fun u v => x0 (ix4 0 ch u v)) (Fin.ext ?_) (Fin.ext ?_)
  · show min (pairUp _ _ _).toInt.toNat 223 = _
    rw [pairUp_row, column_apply, wrap_apply _ _ hy, e _ hy]
  · show min (pairUp _ _ _).toInt.toNat 223 = _
    rw [pairUp_col, column_apply, wrap_apply _ _ hx, e _ hx]

/-! ## Positions -/

/-- A product with one. -/
theorem mul_one' (x : R) : FloatOps.mulf x (FloatOps.ofBits .f32 0x3F800000#32) = x := by
  show (x : EReal) * one = x
  rw [one_eq, mul_one]

/-- The vertical positions. -/
theorem rows_apply (x1 : FVec Ideal S1x18x224x224 .f32) (k : Fin 9) (h w : Fin 224) :
    val_main_v37 (F := Ideal) x1 (ix4 0 k h w) = rowAt x1 k h w := by
  refine congrArg₂ FloatOps.addf ?_ ?_
  · rw [val_main_v36_apply, val_main_v35_apply, val_main_v20_apply, val_main_v18_apply, val_main_v14_apply, val_main_v13_apply,
      val_main_v11_apply, val_main_v10_apply, val_main_v12_apply, val_main_v19_apply, val_main_v17_apply, val_main_v16_apply,
      val_main_v15_apply, val_main_v6_apply, val_main_v5_apply, val_main_v3_apply, val_main_v1_apply]
    exact congrArg₂ FloatOps.addf (congrArg₂ FloatOps.subf (mul_one' _) rfl) (mul_one' _)
  · rw [val_main_v34_apply, val_main_v33_apply, val_main_v0_apply,
      show idx_main_v34 (ix4 0 k h w) = ix5 0 k 0 h w from funext fun a => Fin.ext (match a with
        | ⟨0, _⟩ => rfl
        | ⟨1, _⟩ => by show (((0 * 9 + k.val) * 224 + h.val) * 224 + w.val) / 50176 % 9 = k.val; omega
        | ⟨2, _⟩ => rfl
        | ⟨3, _⟩ => by show (((0 * 9 + k.val) * 224 + h.val) * 224 + w.val) / 224 % 224 = h.val; omega
        | ⟨4, _⟩ => by show (((0 * 9 + k.val) * 224 + h.val) * 224 + w.val) % 224 = w.val; omega),
      show idx_main_v33 (ix5 0 k 0 h w) = ix5 0 k 0 h w from funext fun a => Fin.ext (match a with
        | ⟨0, _⟩ => rfl | ⟨1, _⟩ => rfl | ⟨2, _⟩ => rfl | ⟨3, _⟩ => rfl | ⟨4, _⟩ => rfl)]
    refine congrArg x1 (funext fun a => Fin.ext (match a with
      | ⟨0, _⟩ => rfl
      | ⟨1, _⟩ => by show ((((0 * 9 + k.val) * 2 + 0) * 224 + h.val) * 224 + w.val) / 50176 % 18 = 2 * k.val; omega
      | ⟨2, _⟩ => by show ((((0 * 9 + k.val) * 2 + 0) * 224 + h.val) * 224 + w.val) / 224 % 224 = h.val; omega
      | ⟨3, _⟩ => by show ((((0 * 9 + k.val) * 2 + 0) * 224 + h.val) * 224 + w.val) % 224 = w.val; omega))

/-- The horizontal positions. -/
theorem cols_apply (x1 : FVec Ideal S1x18x224x224 .f32) (k : Fin 9) (h w : Fin 224) :
    val_main_v42 (F := Ideal) x1 (ix4 0 k h w) = colAt x1 k h w := by
  refine congrArg₂ FloatOps.addf ?_ ?_
  · rw [val_main_v41_apply, val_main_v40_apply, val_main_v32_apply, val_main_v30_apply, val_main_v26_apply, val_main_v25_apply,
      val_main_v23_apply, val_main_v22_apply, val_main_v24_apply, val_main_v31_apply, val_main_v29_apply, val_main_v28_apply,
      val_main_v27_apply, val_main_v8_apply, val_main_v7_apply, val_main_v4_apply, val_main_v2_apply]
    exact congrArg₂ FloatOps.addf (congrArg₂ FloatOps.subf (mul_one' _) rfl) (mul_one' _)
  · rw [val_main_v39_apply, val_main_v38_apply, val_main_v0_apply,
      show idx_main_v39 (ix4 0 k h w) = ix5 0 k 0 h w from funext fun a => Fin.ext (match a with
        | ⟨0, _⟩ => rfl
        | ⟨1, _⟩ => by show (((0 * 9 + k.val) * 224 + h.val) * 224 + w.val) / 50176 % 9 = k.val; omega
        | ⟨2, _⟩ => rfl
        | ⟨3, _⟩ => by show (((0 * 9 + k.val) * 224 + h.val) * 224 + w.val) / 224 % 224 = h.val; omega
        | ⟨4, _⟩ => by show (((0 * 9 + k.val) * 224 + h.val) * 224 + w.val) % 224 = w.val; omega),
      show idx_main_v38 (ix5 0 k 0 h w) = ix5 0 k 1 h w from funext fun a => Fin.ext (match a with
        | ⟨0, _⟩ => rfl | ⟨1, _⟩ => rfl | ⟨2, _⟩ => rfl | ⟨3, _⟩ => rfl | ⟨4, _⟩ => rfl)]
    refine congrArg x1 (funext fun a => Fin.ext (match a with
      | ⟨0, _⟩ => rfl
      | ⟨1, _⟩ => by show ((((0 * 9 + k.val) * 2 + 1) * 224 + h.val) * 224 + w.val) / 50176 % 18 = 2 * k.val + 1; omega
      | ⟨2, _⟩ => by show ((((0 * 9 + k.val) * 2 + 1) * 224 + h.val) * 224 + w.val) / 224 % 224 = h.val; omega
      | ⟨3, _⟩ => by show ((((0 * 9 + k.val) * 2 + 1) * 224 + h.val) * 224 + w.val) % 224 = w.val; omega))

/-! ## Corners and their sum -/

/-- One corner's product: fetched value, flag and weight. -/
theorem corner_apply (x0 : FVec Ideal S1x96x224x224 .f32) (y x : IVec S1x9x224x224 32) (m g : FVec Ideal S1x9x224x224 .f32)
    (u v : R) (ch : Fin 96) (k : Fin 9) (h w : Fin 224) (hy : y (ix4 0 k h w) = line u) (hx : x (ix4 0 k h w) = line v) :
    mulf (mulf (fetch x0 y x) (spread m)) (spread g) (ix5 0 ch k h w)
      = FloatOps.mulf (FloatOps.mulf (plane x0 ch (line u) (line v)) (m (ix4 0 k h w))) (g (ix4 0 k h w)) := by
  show FloatOps.mulf (FloatOps.mulf (fetch x0 y x _) (spread m _)) (spread g _) = _
  rw [fetch_apply x0 y x ch k h w (by rw [hy]; exact line_lt u) (by rw [hx]; exact line_lt v), spread_apply, spread_apply, hy, hx]

/-- The four corners added: the bilinear value of a tap. -/
theorem tap_apply (x0 : FVec Ideal S1x96x224x224 .f32) (x1 : FVec Ideal S1x18x224x224 .f32) (ch : Fin 96) (k : Fin 9) (h w : Fin 224) :
    val_main_v209 (F := Ideal) x0 x1 (ix5 0 ch k h w)
      = tap (plane x0 ch) (val_main_v37 (F := Ideal) x1 (ix4 0 k h w)) (val_main_v42 (F := Ideal) x1 (ix4 0 k h w)) := by
  unfold tap
  refine congrArg₂ FloatOps.addf (congrArg₂ FloatOps.addf (congrArg₂ FloatOps.addf ?_ ?_) ?_) ?_
  · exact corner_apply x0 (val_main_v52 (F := Ideal) x1) (val_main_v54 (F := Ideal) x1) (val_main_v80 (F := Ideal) x1) (val_main_v88 (F := Ideal) x1)
      _ _ ch k h w rfl rfl
  · exact corner_apply x0 (val_main_v93 (F := Ideal) x1) (val_main_v95 (F := Ideal) x1) (val_main_v121 (F := Ideal) x1) (val_main_v127 (F := Ideal) x1)
      _ _ ch k h w rfl rfl
  · exact corner_apply x0 (val_main_v133 (F := Ideal) x1) (val_main_v135 (F := Ideal) x1) (val_main_v161 (F := Ideal) x1) (val_main_v167 (F := Ideal) x1)
      _ _ ch k h w rfl rfl
  · exact corner_apply x0 (val_main_v173 (F := Ideal) x1) (val_main_v175 (F := Ideal) x1) (val_main_v201 (F := Ideal) x1) (val_main_v205 (F := Ideal) x1)
      _ _ ch k h w rfl rfl

/-! ## The result -/

/-- The value summed over the taps: a tap's bilinear value times its weight. -/
theorem weighted_apply (x0 : FVec Ideal S1x96x224x224 .f32) (x1 : FVec Ideal S1x18x224x224 .f32) (x2 : FVec Ideal S1x9x224x224 .f32)
    (ch : Fin 96) (k : Fin 9) (h w : Fin 224) :
    val_main_v214 (F := Ideal) x0 x1 x2 (ix6 0 0 ch k h w)
      = FloatOps.mulf (tap (plane x0 ch) (rowAt x1 k h w) (colAt x1 k h w)) (x2 (ix4 0 k h w)) := by
  refine congrArg₂ FloatOps.mulf ?_ ?_
  · rw [← rows_apply, ← cols_apply, ← tap_apply]
    refine shapeCast_apply _ _ _ _ ?_
    rw [Shape.rowMajor_val_five, Shape.rowMajor_val_six]
    show (((0 * 96 + ch.val) * 9 + k.val) * 224 + h.val) * 224 + w.val = ((((0 * 1 + 0) * 96 + ch.val) * 9 + k.val) * 224 + h.val) * 224 + w.val
    omega
  · rw [val_main_v213_apply, val_main_v212_apply, val_main_v210_apply]
    refine congrArg x2 (funext fun a => Fin.ext (match a with
      | ⟨0, _⟩ => rfl
      | ⟨1, _⟩ => by show ((((0 * 1 + 0) * 9 + k.val) * 224 + h.val) * 224 + w.val) / 50176 % 9 = k.val; omega
      | ⟨2, _⟩ => by show ((((0 * 1 + 0) * 9 + k.val) * 224 + h.val) * 224 + w.val) / 224 % 224 = h.val; omega
      | ⟨3, _⟩ => by show ((((0 * 1 + 0) * 9 + k.val) * 224 + h.val) * 224 + w.val) % 224 = w.val; omega))

/-- The reference's result at a channel and pixel: the nine taps' bilinear values, weighted and added. -/
theorem result_apply (x0 : FVec Ideal S1x96x224x224 .f32) (x1 : FVec Ideal S1x18x224x224 .f32) (x2 : FVec Ideal S1x9x224x224 .f32)
    (ch : Fin 96) (h w : Fin 224) :
    val_main_v216 (F := Ideal) x0 x1 x2 (ix4 0 ch h w)
      = (∑ k : Fin 9, FloatOps.mulf (tap (plane x0 ch) (rowAt x1 k h w) (colAt x1 k h w)) (x2 (ix4 0 k h w)) : EReal) := by
  rw [val_main_v216_apply, val_main_v215_apply,
    show idx_main_v216 (ix4 0 ch h w) = ix5 0 0 ch h w from funext fun a => Fin.ext (match a with
      | ⟨0, _⟩ => rfl
      | ⟨1, _⟩ => rfl
      | ⟨2, _⟩ => by show (((0 * 96 + ch.val) * 224 + h.val) * 224 + w.val) / 50176 % 96 = ch.val; omega
      | ⟨3, _⟩ => by show (((0 * 96 + ch.val) * 224 + h.val) * 224 + w.val) / 224 % 224 = h.val; omega
      | ⟨4, _⟩ => by show (((0 * 96 + ch.val) * 224 + h.val) * 224 + w.val) % 224 = w.val; omega)]
  refine Eq.trans (congrArg₂ (· + ·) Ideal.ofBits_zero_f32 (Finset.sum_congr rfl fun k _ => ?_)) (zero_add _)
  rw [show idx_main_v215 (ix5 0 0 ch h w) k = ix6 0 0 ch k h w from funext fun a => Fin.ext (match a with
    | ⟨0, _⟩ => rfl | ⟨1, _⟩ => rfl | ⟨2, _⟩ => rfl | ⟨3, _⟩ => rfl | ⟨4, _⟩ => rfl | ⟨5, _⟩ => rfl)]
  exact weighted_apply x0 x1 x2 ch k h w

end Cert.ReferenceIdeal.Places

end
-- ==== Proof.Finite.lean ====
module

public import proofs.«01_k».proof.Defs
public import Idealize.ShloMosaic.Lib.ReduceAll
public import proofs.«01_k».proof.Proof.Scalars

/-! What the precondition says: every input and every weight is a real number. -/

@[expose] public section

noncomputable section

namespace Cert.Finite

open Idealize.ShloMosaic Cert.Pre_finite Cert.Scalars

/-- The shapes the precondition's operations join fit together. -/
theorem facts : Cert.Pre_finite.Facts where
  bcast_S_S1x96x224x224 := by decide
  reducesTo_S1x96x224x224_S_d0_1_2_3 := by decide
  h_S_ := by decide
  bcast_S_S1x9x224x224 := by decide
  reducesTo_S1x9x224x224_S_d0_1_2_3 := by decide

/-- The largest float pattern reads as plus infinity. -/
theorem inf_eq : Ideal.ofBits .f32 0x7F800000#32 = (⊤ : EReal) := by
  simp [Ideal.ofBits, Ideal.ieee]

/-- An extended real whose absolute value lies below plus infinity is a real. -/
theorem real_of_abs_lt (x : Ideal .f32)
    (h : FloatOps.cmpf .olt (FloatOps.hostAbsf x) (FloatOps.ofBits .f32 0x7F800000#32) = 1#1) : IsReal x := by
  have h : Ideal.cmp .olt (max (x : EReal) (-x)) (Ideal.ofBits .f32 0x7F800000#32) = 1#1 := h
  rw [inf_eq] at h
  have h : max (x : EReal) (-x) < ⊤ := of_decide_eq_true ((cmp_one _).1 h)
  induction x using EReal.rec with
  | bot => simp at h
  | top => simp at h
  | coe r => exact ⟨r, rfl⟩

/-- Under the precondition every input and every weight is a real. -/
theorem reals (a0 : FVec Ideal S1x96x224x224 .f32) (a1 : FVec Ideal S1x18x224x224 .f32) (a2 : FVec Ideal S1x9x224x224 .f32)
    (h : @Cert.Pre_finite.fn facts Ideal _ a0 a1 a2 = fun _ => 1#1) : (∀ i, IsReal (a0 i)) ∧ ∀ i, IsReal (a2 i) := by
  haveI : Subsingleton S_.Idx := ⟨fun a b => funext fun k => k.elim0⟩
  obtain ⟨h0, h2⟩ := IntOp.andi_eq_one.1 (congrFun h fun k => k.elim0)
  exact ⟨fun i => real_of_abs_lt _ (Host.reduce_andi_all _ _ _ _ _ h0 i),
    fun i => real_of_abs_lt _ (Host.reduce_andi_all _ _ _ _ _ h2 i)⟩

end Cert.Finite

end
-- ==== Proof.Equation.lean ====
module

public import proofs.«01_k».proof.Proof.KernelRead
public import proofs.«01_k».proof.Proof.RefRead
public import proofs.«01_k».proof.Proof.Finite

/-! The kernel's image is the reference's. -/

@[expose] public section

set_option backward.proofsInPublic true

noncomputable section

namespace Cert.Equation

open Cert.Scalars Cert.Places
open Idealize.ShloMosaic Idealize.ShloMosaic.ValueIdx

/-- With a finite input and finite weights, and any offsets, the two images agree. -/
theorem images (a0 : Img.Idx → R) (a1 : Off.Idx → R) (a2 : Wts.Idx → R) (h0 : ∀ i, IsReal (a0 i)) (h2 : ∀ i, IsReal (a2 i)) :
    Cert.KernelIdeal.HostRun.image (F := Ideal) a0 a1 a2 = Cert.ReferenceIdeal.Read.val_main_v216 (F := Ideal) a0 a1 a2 := by
  have key (ch : Fin 96) (h w : Fin 224) : Cert.KernelIdeal.HostRun.image (F := Ideal) a0 a1 a2 (ix4 0 ch h w)
      = Cert.ReferenceIdeal.Read.val_main_v216 (F := Ideal) a0 a1 a2 (ix4 0 ch h w) :=
    (Cert.KernelIdeal.Read.image_apply a0 a1 a2 ch h w).trans
      ((Finset.sum_congr rfl fun k _ => shares (plane a0 ch) _ _ _ (fun _ _ => h0 _) (h2 _)).trans
        (Cert.ReferenceIdeal.Places.result_apply a0 a1 a2 ch h w).symm)
  funext i
  have e : i = ix4 0 (i 1) (i 2) (i 3) := funext fun a => match a with
    | ⟨0, _⟩ => Fin.ext (Nat.lt_one_iff.mp (i 0).isLt)
    | ⟨1, _⟩ => rfl | ⟨2, _⟩ => rfl | ⟨3, _⟩ => rfl
  exact (congrArg _ e).trans ((key (i 1) (i 2) (i 3)).trans (congrArg _ e).symm)

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelRun
public import proofs.«01_k».proof.Proof.Equation
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- The reference runs, leaves its arguments as they were and every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2, sem_eq_zero_of_no_sems (by decide) r.2⟩) (Cert.ReferenceIdeal.Value.run (F := Ideal) m g)

/-- The two results agree on a finite input and finite weights. -/
theorem equal : @Cert.algebraic_KernelIdeal_ReferenceIdeal_pre_finite Cert.KernelIdeal.Gen.facts Cert.ReferenceIdeal.Gen.facts Cert.Finite.facts := by
  intro m g m' g' hp ha
  refine ⟨_, Cert.KernelIdeal.KernelRun.run (F := Ideal) m g,
    (θ_run Cert.ReferenceIdeal.defs _ _).mono (fun r h c => ⟨?_, (h c).2⟩) (Cert.ReferenceIdeal.Value.run (F := Ideal) m' g')⟩
  obtain ⟨h0, h2⟩ := Cert.Finite.reals _ _ _ (hp c)
  refine (h c).1.trans ((Cert.ReferenceIdeal.Read.val_main_v216_eq _).trans ?_)
  show Cert.ReferenceIdeal.Read.val_main_v216 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2)) = _
  rw [(ha c).1, (ha c).2.1, (ha c).2.2]
  exact (Cert.Equation.images _ _ _ h0 h2).symm

/-- Everything the certificate claims. -/
theorem claim : Cert.Claim :=
  ⟨Cert.Kernel.Gen.facts, Cert.KernelIdeal.Gen.facts, Cert.ReferenceIdeal.Gen.facts, Cert.Finite.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    equal⟩

end Cert.Proof

end
